-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![4, 256, 16, 64]⟩ ⟨4, ![4, 512, 16, 64]⟩ (Layout.meshBlock [2, 2, 2] ![[], [0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨4, ![4, 256, 16, 64]⟩ ⟨4, ![4, 512, 16, 64]⟩ (Layout.meshBlock [2, 2, 2] ![[], [0], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![4, 256, 16, 64]⟩ ⟨4, ![4, 512, 16, 64]⟩ (Layout.meshBlock [2, 2, 2] ![[], [0], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = Layout.blockN ⟨4, ![4, 256, 16, 64]⟩ ⟨4, ![4, 512, 16, 64]⟩ (Layout.meshBlock [2, 2, 2] ![[], [0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x256x16x64 : Shape := ⟨4, ![4, 256, 16, 64]⟩
abbrev S4x16x256x64 : Shape := ⟨4, ![4, 16, 256, 64]⟩
abbrev S64x256x64 : Shape := ⟨3, ![64, 256, 64]⟩
abbrev S1x256x64 : Shape := ⟨3, ![1, 256, 64]⟩
abbrev S2 : Shape := ⟨1, ![2]⟩
abbrev S_ : Shape := ⟨0, ![]⟩
abbrev S1 : Shape := ⟨1, ![1]⟩
abbrev S256x64 : Shape := ⟨2, ![256, 64]⟩
abbrev S256x256 : Shape := ⟨2, ![256, 256]⟩
abbrev S256 : Shape := ⟨1, ![256]⟩
abbrev S256x1 : Shape := ⟨2, ![256, 1]⟩

abbrev nBuf : Space → Nat
  | .hbm => 12
  | .vmem => 8
  | .smem => 0
  | _ => 0

abbrev bufTy : (tb : Table) → Fin (tcTables nBuf tb) → BufTy
  | .hbm, ⟨0, _⟩ => ⟨S4x256x16x64, .bf16⟩
  | .hbm, ⟨1, _⟩ => ⟨S4x256x16x64, .bf16⟩
  | .hbm, ⟨2, _⟩ => ⟨S4x256x16x64, .bf16⟩
  | .hbm, ⟨3, _⟩ => ⟨S4x16x256x64, .bf16⟩
  | .hbm, ⟨4, _⟩ => ⟨S64x256x64, .bf16⟩
  | .hbm, ⟨5, _⟩ => ⟨S4x16x256x64, .bf16⟩
  | .hbm, ⟨6, _⟩ => ⟨S64x256x64, .bf16⟩
  | .hbm, ⟨7, _⟩ => ⟨S4x16x256x64, .bf16⟩
  | .hbm, ⟨8, _⟩ => ⟨S64x256x64, .bf16⟩
  | .hbm, ⟨9, _⟩ => ⟨S64x256x64, .f32⟩
  | .hbm, ⟨10, _⟩ => ⟨S4x16x256x64, .f32⟩
  | .hbm, ⟨11, _⟩ => ⟨S4x256x16x64, .f32⟩
  | .local _ .vmem, ⟨0, _⟩ => ⟨S1x256x64, .bf16⟩
  | .local _ .vmem, ⟨1, _⟩ => ⟨S1x256x64, .bf16⟩
  | .local _ .vmem, ⟨2, _⟩ => ⟨S64x256x64, .bf16⟩
  | .local _ .vmem, ⟨3, _⟩ => ⟨S64x256x64, .bf16⟩
  | .local _ .vmem, ⟨4, _⟩ => ⟨S1x256x64, .f32⟩
  | .local _ .vmem, ⟨5, _⟩ => ⟨S1x256x64, .f32⟩
  | .local _ .vmem, ⟨6, _⟩ => ⟨S64x256x64, .bf16⟩
  | .local _ .vmem, ⟨7, _⟩ => ⟨S64x256x64, .bf16⟩
  | _, _ => ⟨S4x256x16x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev barrier0 : Sem sig := 0

abbrev nD : Nat := 8
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v10 : BitVec 1 := Scalar.cmpi .eq arg0 c0_i32
  let v11 : BitVec 32 := Scalar.extui v10
  let c0_i32_4 : BitVec 32 := 0#32
  let v12 : BitVec 1 := Scalar.cmpi .ne v11 c0_i32_4
  v12

def k0_dev1 (d0 : Dev nD) : Nat :=
  let c0_i32_29 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_28 : BitVec 32 := 4#32
  let v62 : BitVec 32 := Scalar.muli v9 c4_i32_28
  let v63 : BitVec 32 := Scalar.addi c0_i32_29 v62
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_30 : BitVec 32 := 2#32
  let v64 : BitVec 32 := Scalar.muli v5 c2_i32_30
  let v65 : BitVec 32 := Scalar.addi v63 v64
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_31 : BitVec 32 := 1#32
  let v66 : BitVec 32 := Scalar.muli v8 c1_i32_31
  let v67 : BitVec 32 := Scalar.addi v65 v66
  v67.toNat
def k0_dev2 (d0 : Dev nD) : Nat :=
  let c0_i32_36 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_35 : BitVec 32 := 4#32
  let v68 : BitVec 32 := Scalar.muli v9 c4_i32_35
  let v69 : BitVec 32 := Scalar.addi c0_i32_36 v68
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_37 : BitVec 32 := 2#32
  let v70 : BitVec 32 := Scalar.muli v5 c2_i32_37
  let v71 : BitVec 32 := Scalar.addi v69 v70
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_38 : BitVec 32 := 1#32
  let v72 : BitVec 32 := Scalar.muli v8 c1_i32_38
  let v73 : BitVec 32 := Scalar.addi v71 v72
  v73.toNat
def k0_dev3 (d0 : Dev nD) : Nat :=
  let c0_i32_42 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_41 : BitVec 32 := 4#32
  let v78 : BitVec 32 := Scalar.muli v9 c4_i32_41
  let v79 : BitVec 32 := Scalar.addi c0_i32_42 v78
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_43 : BitVec 32 := 2#32
  let v80 : BitVec 32 := Scalar.muli v5 c2_i32_43
  let v81 : BitVec 32 := Scalar.addi v79 v80
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_44 : BitVec 32 := 1#32
  let v82 : BitVec 32 := Scalar.muli v8 c1_i32_44
  let v83 : BitVec 32 := Scalar.addi v81 v82
  v83.toNat
def k0_off1 (i : grid0.Coords) : Fin 3 → Nat :=
  let arg0 : BitVec 32 := BitVec.ofNat 32 (i 0).val
  let v15 : Index := Scalar.indexCast arg0
  let c0_7 : Index := 0#32
  let c0_8 : Index := 0#32
  ![v15.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x256x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4x512x16x64 : Shape := ⟨4, ![4, 512, 16, 64]⟩
abbrev S4x16x512x512 : Shape := ⟨4, ![4, 16, 512, 512]⟩
abbrev S_ : Shape := ⟨0, ![]⟩
abbrev S4x16x512 : Shape := ⟨3, ![4, 16, 512]⟩
abbrev S4x16x512x1 : Shape := ⟨4, ![4, 16, 512, 1]⟩
abbrev S4x16x64x512 : Shape := ⟨4, ![4, 16, 64, 512]⟩

abbrev nBuf : Space → Nat
  | .hbm => 23
  | .vmem => 0
  | .smem => 0
  | _ => 0

abbrev bufTy : (tb : Table) → Fin (tcTables nBuf tb) → BufTy
  | .hbm, ⟨0, _⟩ => ⟨S4x512x16x64, .bf16⟩
  | .hbm, ⟨1, _⟩ => ⟨S4x512x16x64, .bf16⟩
  | .hbm, ⟨2, _⟩ => ⟨S4x512x16x64, .bf16⟩
  | .hbm, ⟨3, _⟩ => ⟨S4x512x16x64, .f32⟩
  | .hbm, ⟨4, _⟩ => ⟨S4x512x16x64, .f32⟩
  | .hbm, ⟨5, _⟩ => ⟨S4x512x16x64, .f32⟩
  | .hbm, ⟨6, _⟩ => ⟨S4x16x512x512, .f32⟩
  | .hbm, ⟨7, _⟩ => ⟨S_, .f32⟩
  | .hbm, ⟨8, _⟩ => ⟨S4x16x512x512, .f32⟩
  | .hbm, ⟨9, _⟩ => ⟨S4x16x512x512, .f32⟩
  | .hbm, ⟨10, _⟩ => ⟨S_, .f32⟩
  | .hbm, ⟨11, _⟩ => ⟨S4x16x512, .f32⟩
  | .hbm, ⟨12, _⟩ => ⟨S4x16x512x1, .f32⟩
  | .hbm, ⟨13, _⟩ => ⟨S4x16x512x512, .f32⟩
  | .hbm, ⟨14, _⟩ => ⟨S4x16x512x512, .f32⟩
  | .hbm, ⟨15, _⟩ => ⟨S4x16x512x512, .f32⟩
  | .hbm, ⟨16, _⟩ => ⟨S_, .f32⟩
  | .hbm, ⟨17, _⟩ => ⟨S4x16x512, .f32⟩
  | .hbm, ⟨18, _⟩ => ⟨S4x16x512x1, .f32⟩
  | .hbm, ⟨19, _⟩ => ⟨S4x16x512x512, .f32⟩
  | .hbm, ⟨20, _⟩ => ⟨S4x16x512x512, .f32⟩
  | .hbm, ⟨21, _⟩ => ⟨S4x16x64x512, .f32⟩
  | .hbm, ⟨22, _⟩ => ⟨S4x512x16x64, .f32⟩
  | _, _ => ⟨S4x512x16x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.Protocol.lean ====
/-
The exchange between two devices that differ in the first mesh coordinate, as a round protocol.

Devices 0 to 7 lie in a 2 × 2 × 2 mesh; the partner of a device is the one four places away. At the first
grid point each device tells its partner, over the barrier semaphore, that its two landing buffers may be
written, waits for the same word from its partner, sends its K and its V block into the partner's landing
buffers and waits until both blocks have left and both of the partner's blocks have arrived. Every
semaphore of the exchange therefore goes through exactly one round, and the round has exactly one payer.

This module names the five semaphores of a device by their ROLE, says what each payer hands over (`pay`),
and collects what the body of the kernel starts from (`ready`) and ends in (`settled`).
-/
module

public import proofs.«01_k».proof.Proof.Gen.KernelIdeal.Launch
public import proofs.«01_k».proof.Proof.Gen.KernelIdeal.Points
public import proofs.«01_k».proof.Proof.Gen.KernelIdeal.Frame
public import Idealize.ShloMosaic.Lib.Rounds
public import Idealize.ShloMosaic.Lib.Tactic

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The resource algebra -/

/-- One copy of the round protocol for the staging buffers of the pipeline, one for the exchange. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev EX : Emb (UR sig nD τ) (MT nD τ sig Unit (Elt F) ℕ UU ℕ) := embR

/-! ## Partners -/

/-- The device across the first mesh axis. -/
def peer (c : Dev nD) : Dev nD := ⟨(c.val + 4) % 8, Nat.mod_lt _ (by decide)⟩

theorem peer_peer (c : Dev nD) : peer (peer c) = c := by revert c; decide

/-- Taking the partner, as a permutation of the devices. -/
def swap : Dev nD ≃ Dev nD := ⟨peer, peer, peer_peer, peer_peer⟩

/-- The device number the kernel computes for its partner. -/
theorem peer_val (c : Dev nD) : 2 * ((c.val / 2) % 2) + c.val % 2 + 4 - 4 * (c.val / 4) = (peer c).val := by
  revert c; decide

/-! ## Roles -/

/-- What a semaphore of the exchange is for: the meeting point, the departure of K and of V, the arrival of K and of V. -/
inductive Role
  | meet | goK | goV | inK | inV
  deriving DecidableEq

instance : Fintype Role := ⟨{.meet, .goK, .goV, .inK, .inV}, fun r => by cases r <;> decide⟩

/-- The semaphore that plays a role. -/
def semOf : Role → SemLoc sig
  | .meet => .reg barrier0
  | .goK => .dma (6 : Fin 10)
  | .goV => .dma (7 : Fin 10)
  | .inK => .dma (8 : Fin 10)
  | .inV => .dma (9 : Fin 10)

/-- The role a semaphore plays, if it plays one. -/
def roleOf (s : SemLoc sig) : Option Role :=
  if s = semOf .meet then some .meet else if s = semOf .goK then some .goK else if s = semOf .goV then some .goV
  else if s = semOf .inK then some .inK else if s = semOf .inV then some .inV else none

theorem roleOf_semOf (r : Role) : roleOf (semOf r) = some r := by cases r <;> decide

theorem semOf_injective : Function.Injective semOf := fun a b h =>
  Option.some.inj ((roleOf_semOf a).symm.trans ((congrArg roleOf h).trans (roleOf_semOf b)))

/-- The semaphore cell of a device that plays a role. -/
abbrev cell (c : Dev nD) (r : Role) : GSem nD τ sig := ((c : Thread nD τ), semOf r)

theorem cell_injective : Function.Injective fun x : Dev nD × Role => cell x.1 x.2 := by
  rintro ⟨c, r⟩ ⟨c', r'⟩ h
  have h' : (((c : Thread nD τ), semOf r) : GSem nD τ sig) = ((c' : Thread nD τ), semOf r') := h
  have h₁ := (Prod.mk.inj h').1
  have h₂ := semOf_injective (Prod.mk.inj h').2
  subst h₂
  exact congrArg (fun d : Dev nD => (d, r)) (congrArg (fun t : Thread nD τ => t.1) h₁)

/-- How much one payment to a role's semaphore raises it by: a word, or the size of a block. -/
def unit : Role → ℕ
  | .meet => 1
  | .goK => (Memref.whole cc0_scratch0 : Memref sig .tc .vmem S64x256x64 .bf16).view.dmaCredit
  | .inK => (Memref.whole cc0_scratch0 : Memref sig .tc .vmem S64x256x64 .bf16).view.dmaCredit
  | .goV => (Memref.whole cc0_scratch1 : Memref sig .tc .vmem S64x256x64 .bf16).view.dmaCredit
  | .inV => (Memref.whole cc0_scratch1 : Memref sig .tc .vmem S64x256x64 .bf16).view.dmaCredit

theorem unit_pos (r : Role) : 0 < unit r := by
  cases r
  · exact Nat.one_pos
  all_goals exact View.dmaCredit_pos _ (by decide)

/-! ## Contents -/

variable (m : (ℓ : Loc nD τ sig) → Buf (Elt F) ℓ)

/-- The first grid point. -/
abbrev t₀ : Fin cfg0.N := ⟨0, by decide⟩

/-- The K block a device stages. -/
def ownK (c : Dev nD) : Buf (Elt F) ((c : Thread nD τ).loc cc0_stg1_0) := iblk m c 1 t₀
/-- The V block a device stages. -/
def ownV (c : Dev nD) : Buf (Elt F) ((c : Thread nD τ).loc cc0_stg2_0) := iblk m c 2 t₀

/-- What arrives in a device's first landing buffer: its partner's K block. -/
def farK (c : Dev nD) : Buf (Elt F) ((c : Thread nD τ).loc cc0_scratch0) := ownK m (peer c)
/-- What arrives in a device's second landing buffer: its partner's V block. -/
def farV (c : Dev nD) : Buf (Elt F) ((c : Thread nD τ).loc cc0_scratch1) := ownV m (peer c)

/-- A device holds one of its buffers whole, at the given contents. -/
abbrev holds (c : Dev nD) (b : Ref sig .tc) (f : Buf (Elt F) ((c : Thread nD τ).loc b)) : sProp 𝕄 :=
  (((c : Thread nD τ).loc b) ↦{fullShare} f)

/-- A device holds one of its buffers whole, at some contents. -/
abbrev holdsAny (c : Dev nD) (b : Ref sig .tc) : sProp 𝕄 :=
  iprop(∃ f : Buf (Elt F) ((c : Thread nD τ).loc b), ((c : Thread nD τ).loc b) ↦{fullShare} f)

/-! ## What each payer hands over -/

/-- The payment to the semaphore of role `r` of device `c`. To the meeting point the partner brings its two landing
    buffers and that its two arrival semaphores are open; a departure returns the block sent; an arrival brings the landing
    buffer with the partner's block in it. -/
def pay (c : Dev nD) : Role → sProp 𝕄
  | .meet => iprop(holdsAny (peer c) cc0_scratch0 ∗ holdsAny (peer c) cc0_scratch1
      ∗ reached EX (cell (peer c) .inK) 0 ∗ reached EX (cell (peer c) .inV) 0)
  | .goK => holds c cc0_stg1_0 (ownK m c)
  | .goV => holds c cc0_stg2_0 (ownV m c)
  | .inK => holds c cc0_scratch0 (farK m c)
  | .inV => holds c cc0_scratch1 (farV m c)

instance pay_storable (c : Dev nD) (r : Role) : BI.Storable (upEmb : UEmb _ 𝕄) (pay m c r) := by
  cases r <;> (unfold pay; infer_instance)

/-- The exchange as a schedule: one round for each semaphore that plays a role, with one payer. -/
def plan : Rounds.Schedule (GSem nD τ sig) Unit 𝕄 where
  duties g k := if k = 0 ∧ (roleOf g.2).isSome = true then {()} else ∅
  unitless _ := False
  amount g _ _ := (roleOf g.2).elim 1 unit
  payload g _ _ := (roleOf g.2).elim iprop(emp) (pay m g.1.1)
  amount_pos g _ _ _ := by
    cases h : roleOf g.2 with
    | none => exact Nat.one_pos
    | some r => exact unit_pos r

instance plan_storable (g : GSem nD τ sig) (k : ℕ) (d : Unit) :
    BI.Storable (upEmb : UEmb _ 𝕄) ((plan (F := F) m).payload g k d) := by
  show BI.Storable upEmb ((roleOf g.2).elim iprop(emp) (pay m g.1.1))
  cases roleOf g.2 with
  | none => exact (inferInstance : BI.Storable upEmb (iprop(emp) : sProp 𝕄))
  | some r => exact pay_storable m g.1.1 r

section Facts

variable (c : Dev nD) (r : Role)

theorem plan_duties : (plan (F := F) m).duties (cell c r) 0 = {()} :=
  if_pos ⟨rfl, by show (roleOf (semOf r)).isSome = true; rw [roleOf_semOf]; rfl⟩

theorem plan_member : () ∈ (plan (F := F) m).duties (cell c r) 0 := by
  rw [plan_duties]; exact Finset.mem_singleton_self _

/-- After its round a semaphore of the exchange has no payer left. -/
theorem plan_over (g : GSem nD τ sig) : ∀ k, 0 + 1 ≤ k → (plan (F := F) m).duties g k = ∅ := fun k hk =>
  if_neg fun h => absurd h.1 (Nat.one_le_iff_ne_zero.mp hk)

theorem plan_amount : (plan (F := F) m).amount (cell c r) 0 () = unit r := by
  show (roleOf (semOf r)).elim 1 unit = unit r
  rw [roleOf_semOf]; rfl

theorem plan_payload : (plan (F := F) m).payload (cell c r) 0 () = pay m c r := by
  show (roleOf (semOf r)).elim iprop(emp) (pay m c) = pay m c r
  rw [roleOf_semOf]; rfl

theorem plan_expect : (plan (F := F) m).expect (cell c r) 0 = unit r := by
  unfold Rounds.Schedule.expect Rounds.Schedule.amountOf
  rw [plan_duties, Finset.sum_singleton, plan_amount]

/-- All that a semaphore of the exchange pays out over its round. -/
theorem plan_rest :
    bigSep ((plan (F := F) m).duties (cell c r) 0 \ ∅) (fun d => (plan (F := F) m).payload (cell c r) 0 d) = pay m c r := by
  rw [Finset.sdiff_empty, plan_duties, bigSep_singleton, plan_payload]

end Facts

/-! ## Levels and debts -/

/-- A device waits at the meeting point while it still owes two arrivals; the pipeline's own waits come lowest. -/
def rank (g : GSem nD τ sig) (_ : Unit) : ℕ :=
  match roleOf g.2 with
  | some .meet => 1
  | some .inK | some .inV => 2
  | _ => 0

/-- Every cell of a TensorCore takes part in the ranking. -/
def ranked (g : GSem nD τ sig) : Finset Unit := if g.1.2 = .tc then {()} else ∅

theorem ranked_tc (c : Dev nD) (s : SemLoc sig) : ranked ((c : Thread nD τ), s) = {()} := if_pos rfl

/-- What a device owes after it has met its partner: the two arrivals. -/
def owesTwo (c : Dev nD) : CellTallies nD τ sig Unit :=
  tallyAt (cell (peer c) .inV) () (unit .inV) + tallyAt (cell (peer c) .inK) () (unit .inK)

/-- What a device owes at the start: the word at its partner's meeting point and the two arrivals. -/
def owesAll (c : Dev nD) : CellTallies nD τ sig Unit :=
  owesTwo c + tallyAt (cell (peer c) .meet) () (unit .meet)

/-- Whatever a device owes at the start it owes to an arrival or to a meeting point of its partner. -/
theorem owesAll_cases {c : Dev nD} {g : GSem nD τ sig} {u : Unit} (h : 0 < owesAll c g u) :
    ∃ r, (r = .meet ∨ r = .inK ∨ r = .inV) ∧ g = cell (peer c) r := by
  by_contra hne
  have e : ∀ r, (r = Role.meet ∨ r = .inK ∨ r = .inV) → (tallyAt (cell (peer c) r) () (unit r) : CellTallies nD τ sig Unit) g u = 0 := by
    intro r hr
    rw [tallyAt_apply, if_neg fun h' => hne ⟨r, hr, h'.1⟩]
  have : owesAll c g u = 0 := by
    show ((tallyAt (cell (peer c) .inV) () (unit .inV) : CellTallies nD τ sig Unit) g u
      + (tallyAt (cell (peer c) .inK) () (unit .inK) : CellTallies nD τ sig Unit) g u)
      + (tallyAt (cell (peer c) .meet) () (unit .meet) : CellTallies nD τ sig Unit) g u = 0
    rw [e .inV (.inr (.inr rfl)), e .inK (.inr (.inl rfl)), e .meet (.inl rfl)]
  exact absurd h (by rw [this]; exact Nat.lt_irrefl 0)

/-- Waiting at the meeting point is allowed to a device that owes the two arrivals. -/
theorem may_meet (c : Dev nD) :
    (levAts ranked rank : sProp 𝕄) ⊢ MayWait (c : Thread nD τ) (semOf .meet) () (owesTwo c) := by
  have hcase : ∀ {g : GSem nD τ sig} {u : Unit}, 0 < owesTwo c g u → g = cell (peer c) .inV ∨ g = cell (peer c) .inK := by
    intro g u hg
    by_contra hne
    rw [not_or] at hne
    have : owesTwo c g u = 0 := by
      show (tallyAt (cell (peer c) .inV) () (unit .inV) : CellTallies nD τ sig Unit) g u
        + (tallyAt (cell (peer c) .inK) () (unit .inK) : CellTallies nD τ sig Unit) g u = 0
      rw [tallyAt_apply, tallyAt_apply, if_neg fun h => hne.1 h.1, if_neg fun h => hne.2 h.1]
    exact absurd hg (by rw [this]; exact Nat.lt_irrefl 0)
  refine MayOwe.of_cut (L := ranked) (lev := rank) 1 (fun p hp => ?_) (fun g u hg => ?_) (fun p hp => ?_) (fun g u hg => ?_)
  · rw [Finset.mem_singleton.mp hp, ranked_tc]; exact Finset.mem_singleton_self _
  · rcases hcase hg with rfl | rfl <;> exact (ranked_tc _ _).symm ▸ Finset.mem_singleton_self _
  · rw [Finset.mem_singleton.mp hp]
    exact le_of_eq (by unfold rank; dsimp only; rw [roleOf_semOf])
  · rcases hcase hg with rfl | rfl <;> (unfold rank; dsimp only; rw [roleOf_semOf]; exact Nat.lt_succ_self 1)

/-! ## What the body starts from and ends in -/

/-- The invariants of all the semaphores of the exchange. -/
def laws (K : GSem nD τ sig → ℕ) : sProp 𝕄 :=
  bigSep (Finset.univ : Finset (Dev nD × Role)) fun x => cellInv EX (plan m) (K (cell x.1 x.2)) (cell x.1 x.2)

instance laws_persistent (K : GSem nD τ sig → ℕ) : BI.Persistent (laws (F := F) m K) := by unfold laws; infer_instance

theorem law (K : GSem nD τ sig → ℕ) (c : Dev nD) (r : Role) :
    laws (F := F) m K ⊢ cellInv EX (plan m) (K (cell c r)) (cell c r) :=
  bigSep_elim (Φ := fun x : Dev nD × Role => (cellInv EX (plan m) (K (cell x.1 x.2)) (cell x.1 x.2) : sProp 𝕄)) (Finset.mem_univ (c, r))

/-- The right to make each of the five payments a device makes, and the credit for the three waits that others pay for. -/
def rights (c : Dev nD) : sProp 𝕄 :=
  iprop(dutyTok EX (cell (peer c) .meet) 0 () ∗ dutyTok EX (cell (peer c) .inK) 0 () ∗ dutyTok EX (cell (peer c) .inV) 0 ()
    ∗ dutyTok EX (cell c .goK) 0 () ∗ dutyTok EX (cell c .goV) 0 ()
    ∗ cred (tallyAt (cell c .meet) () (unit .meet)) ∗ cred (tallyAt (cell c .inK) () (unit .inK))
    ∗ cred (tallyAt (cell c .inV) () (unit .inV)))

/-- What a device carries from the launch to the kernel: the invariants, the open meeting points, and the right to open its
    own four transfer semaphores. -/
def carried (c : Dev nD) : sProp 𝕄 :=
  iprop(∃ K : GSem nD τ sig → ℕ, laws m K ∗ rights c ∗ atPos EX (cell c .meet) 0 ∅ 0 ∗ reached EX (cell (peer c) .meet) 0
    ∗ openTok EX (cell c .goK) ∗ openTok EX (cell c .goV) ∗ openTok EX (cell c .inK) ∗ openTok EX (cell c .inV))

/-- The same once the four transfer semaphores are open. -/
def opened (c : Dev nD) : sProp 𝕄 :=
  iprop(∃ K : GSem nD τ sig → ℕ, laws m K ∗ rights c ∗ atPos EX (cell c .meet) 0 ∅ 0 ∗ reached EX (cell (peer c) .meet) 0
    ∗ (atPos EX (cell c .goK) 0 ∅ 0 ∗ reached EX (cell c .goK) 0) ∗ (atPos EX (cell c .goV) 0 ∅ 0 ∗ reached EX (cell c .goV) 0)
    ∗ (atPos EX (cell c .inK) 0 ∅ 0 ∗ reached EX (cell c .inK) 0) ∗ (atPos EX (cell c .inV) 0 ∅ 0 ∗ reached EX (cell c .inV) 0)
    ∗ levAts ranked rank)

/-- The five semaphores of a device, all at zero. -/
def quiet (c : Dev nD) : sProp 𝕄 :=
  iprop(semVal (cell c .goK) 0 ∗ semVal (cell c .goV) 0 ∗ semVal (cell c .inK) 0 ∗ semVal (cell c .inV) 0 ∗ semVal (cell c .meet) 0)

/-- Before the first grid point: the exchange is ready to run. -/
def ready (c : Dev nD) : sProp 𝕄 :=
  iprop(opened m c ∗ holdsAny c cc0_scratch0 ∗ holdsAny c cc0_scratch1)

/-- After the first grid point: both of the partner's blocks are here and every semaphore is at zero. -/
def settled (c : Dev nD) : sProp 𝕄 :=
  iprop(holds c cc0_scratch0 (farK m c) ∗ holds c cc0_scratch1 (farV m c) ∗ quiet c)

end Cert.KernelIdeal.Exchange

end
-- ==== Proof.Compute.lean ====
/-
The arithmetic part of the kernel's body, which every grid point runs: load a block of queries, this device's
keys and values and its partner's for the same head, and store the attention block.
-/
module

public import proofs.«01_k».proof.Proof.Protocol
public import proofs.«01_k».proof.Proof.Gen.KernelIdeal.Skeleton
public import Idealize.ShloMosaic.Lib.VecWindow
public import Idealize.ShloMosaic.Lib.ReshapeSlab

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ UU ℕ

/-- No termination measures are used. -/
abbrev 𝒱₀ : Variants := Variants.none

/-- The rows of one head, out of all sixty-four. -/
def pick (i : grid0.Coords) (X : S64x256x64.Idx → Elt F .bf16) : S1x256x64.Idx → Elt F .bf16 :=
  fun y => X ((Rect.unit (s := S64x256x64) (k0_off1 i) S1x256x64.size (k0_off1_inb i)).toLoadRect.idx y)

/-- The attention block of one head from the queries, this device's keys and values, and the partner's. -/
def attn (i : grid0.Coords) (q : S1x256x64.Idx → Elt F .bf16) (k v k' v' : S64x256x64.Idx → Elt F .bf16) : S1x256x64.Idx → Elt F .f32 :=
  k0_pay1 (k0_pay3 (pick i v)) (k0_pay4 (pick i v')) (k0_pay5 q (pick i k)) (k0_pay6 q (pick i k'))

/-- The loads and the store of a grid point. -/
def compute (i : grid0.Coords) (a1 : Memref sig .tc .vmem S1x256x64 .bf16) (a2 a3 : Memref sig .tc .vmem S64x256x64 .bf16)
    (a4 : Memref sig .tc .vmem S1x256x64 .f32) (a5 a6 : Memref sig .tc .vmem S64x256x64 .bf16) : Prog (TpuEff nD τ sig (Elt F) Λ₀ .tc) PUnit :=
  .op (.load a1 (Rect.unit (s := S1x256x64) ![0, 0, 0] S1x256x64.size inb_S1x256x64_S1x256x64_0_0_0).toLoadRect (View.loadsAt_vmem h_S1x256x64)) fun q =>
  .op (.load a2 (Rect.unit (s := S64x256x64) (k0_off1 i) S1x256x64.size (k0_off1_inb i)).toLoadRect (View.loadsAt_vmem h_S1x256x64)) fun k =>
  .op (.load a5 (Rect.unit (s := S64x256x64) (k0_off1 i) S1x256x64.size (k0_off1_inb i)).toLoadRect (View.loadsAt_vmem h_S1x256x64)) fun k' =>
  .op (.load a3 (Rect.unit (s := S64x256x64) (k0_off1 i) S1x256x64.size (k0_off1_inb i)).toLoadRect (View.loadsAt_vmem h_S1x256x64)) fun v =>
  .op (.load a6 (Rect.unit (s := S64x256x64) (k0_off1 i) S1x256x64.size (k0_off1_inb i)).toLoadRect (View.loadsAt_vmem h_S1x256x64)) fun v' =>
  .op (.load a4 (Rect.unit (s := S1x256x64) ![0, 0, 0] S1x256x64.size inb_S1x256x64_S1x256x64_0_0_0).toLoadRect (View.loadsAt_vmem h_S1x256x64)) fun _ =>
  .op (.store a4 (Rect.unit (s := S1x256x64) ![0, 0, 0] S1x256x64.size inb_S1x256x64_S1x256x64_0_0_0)
    (k0_pay1 (k0_pay3 v) (k0_pay4 v') (k0_pay5 q k) (k0_pay6 q k')) Finset.univ (View.stores_vmem_bits_univ h_S1x256x64 rfl) (.inl rfl)) fun _ =>
  .ret ⟨⟩

/-- What a load or a store through a memref touches lies in what the memref covers. -/
theorem setOn_within {sp : Space} {s : Shape} {e : EltTy} (a : Memref sig .tc sp s e) (S : Finset s.Idx) : a.view.setOn S ⊆ a.view.set :=
  View.setOn_subset_set _ _

/-- The elements a store over the whole of a memref touches are among those the memref covers. -/
theorem store_within (a : Memref sig .tc .vmem S1x256x64 .f32) :
    (a.access (Rect.unit (s := S1x256x64) ![0, 0, 0] S1x256x64.size inb_S1x256x64_S1x256x64_0_0_0)).setOn Finset.univ ⊆ a.view.set :=
  (View.setOn_subset_set _ _).trans ((View.set_slice_subset_setOn a.view _).trans (View.setOn_subset_set _ _))

/-- A store over the whole of a memref is read back as what was stored. -/
theorem read_stored (a : Memref sig .tc .vmem S1x256x64 .f32) (f : a.view.ty.Contents (Elt F)) (w : S1x256x64.Idx → Elt F .f32) :
    a.view.read (Elt F) ((a.access (Rect.unit (s := S1x256x64) ![0, 0, 0] S1x256x64.size inb_S1x256x64_S1x256x64_0_0_0)).write (Elt F) f w Finset.univ) = w :=
  (View.readAt_full (Val := Elt F) a.view _ inb_S1x256x64_S1x256x64_0_0_0).symm.trans (View.read_write_univ _ _)

/-- A grid point's loads and its store leave all operands in place and the attention block in the output buffer. -/
theorem compute_run (c : Dev nD) (i : grid0.Coords) (a1 : Memref sig .tc .vmem S1x256x64 .bf16) (a2 a3 : Memref sig .tc .vmem S64x256x64 .bf16)
    (a4 : Memref sig .tc .vmem S1x256x64 .f32) (a5 a6 : Memref sig .tc .vmem S64x256x64 .bf16)
    (q : S1x256x64.Idx → Elt F .bf16) (k v k' v' : S64x256x64.Idx → Elt F .bf16) (o : S1x256x64.Idx → Elt F .f32) (Kt : PUnit → sProp 𝕄) :
    iprop((owns (c : Thread nD τ) a1 fullShare q ∗ owns (c : Thread nD τ) a2 fullShare k ∗ owns (c : Thread nD τ) a3 fullShare v
        ∗ owns (c : Thread nD τ) a4 fullShare o ∗ owns (c : Thread nD τ) a5 fullShare k' ∗ owns (c : Thread nD τ) a6 fullShare v')
      ∗ ((owns (c : Thread nD τ) a1 fullShare q ∗ owns (c : Thread nD τ) a2 fullShare k ∗ owns (c : Thread nD τ) a3 fullShare v
        ∗ owns (c : Thread nD τ) a4 fullShare (attn i q k v k' v') ∗ owns (c : Thread nD τ) a5 fullShare k' ∗ owns (c : Thread nD τ) a6 fullShare v') -∗ Kt ⟨⟩))
      ⊢ wp frame (wpE (defs₀ (F := F)) 𝒱₀ (c : Thread nD τ) none) Set.univ (compute (F := F) i a1 a2 a3 a4 a5 a6) Kt := by
  unfold compute owns
  iintro ⟨⟨⟨%f1, %h1, H1⟩, ⟨%f2, %h2, H2⟩, ⟨%f3, %h3, H3⟩, ⟨%f4, %h4, H4⟩, ⟨%f5, %h5, H5⟩, ⟨%f6, %h6, H6⟩⟩, Hk⟩
  iapply (wp_load 𝒱₀ (c : Thread nD τ) none Set.univ (m := a1) (setOn_within a1 _)) $$ H1
  iintro H1
  iapply (wp_load 𝒱₀ (c : Thread nD τ) none Set.univ (m := a2) (setOn_within a2 _)) $$ H2
  iintro H2
  iapply (wp_load 𝒱₀ (c : Thread nD τ) none Set.univ (m := a5) (setOn_within a5 _)) $$ H5
  iintro H5
  iapply (wp_load 𝒱₀ (c : Thread nD τ) none Set.univ (m := a3) (setOn_within a3 _)) $$ H3
  iintro H3
  iapply (wp_load 𝒱₀ (c : Thread nD τ) none Set.univ (m := a6) (setOn_within a6 _)) $$ H6
  iintro H6
  iapply (wp_load 𝒱₀ (c : Thread nD τ) none Set.univ (m := a4) (setOn_within a4 _)) $$ H4
  iintro H4
  iapply (wp_store 𝒱₀ (c : Thread nD τ) none Set.univ (m := a4)
    (r := Rect.unit (s := S1x256x64) ![0, 0, 0] S1x256x64.size inb_S1x256x64_S1x256x64_0_0_0) (Mk := Finset.univ) (S := a4.view.set) (f := f4)
    (store_within a4)) $$ H4
  iintro H4
  rw [wp_ret]
  imodintro
  iapply Hk
  isplitl [H1]; · iexists f1; isplitr; · ipureintro; exact h1
                  iexact H1
  isplitl [H2]; · iexists f2; isplitr; · ipureintro; exact h2
                  iexact H2
  isplitl [H3]; · iexists f3; isplitr; · ipureintro; exact h3
                  iexact H3
  isplitl [H4]
  · iexists _
    isplitr
    rotate_left
    · iexact H4
    · ipureintro
      rw [read_stored, ← h1, ← h2, ← h3, ← h5, ← h6]
      unfold attn
      rw [View.readAt_full]
      rfl
  isplitl [H5]; · iexists f5; isplitr; · ipureintro; exact h5
                  iexact H5
  iexists f6; isplitr; · ipureintro; exact h6
  iexact H6

end Cert.KernelIdeal.Exchange

end
-- ==== Proof.Talk.lean ====
/-
The exchange itself, run once by every device at the first grid point: meet the partner, send the K and the V
block, wait for both departures and both arrivals.
-/
module

public import proofs.«01_k».proof.Proof.Compute

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- The staging buffers of K and V and the two landing buffers, each as a whole memref. -/
abbrev stK : Memref sig .tc .vmem S64x256x64 .bf16 := Memref.whole cc0_stg1_0
abbrev stV : Memref sig .tc .vmem S64x256x64 .bf16 := Memref.whole cc0_stg2_0
abbrev laK : Memref sig .tc .vmem S64x256x64 .bf16 := Memref.whole cc0_scratch0
abbrev laV : Memref sig .tc .vmem S64x256x64 .bf16 := Memref.whole cc0_scratch1

/-- The exchange with the word for `n₁` and the blocks for `n₂` and `n₃`, followed by `rest`. -/
def talk (n₁ n₂ n₃ : Dev nD) (rest : Prog (TpuEff nD τ sig (Elt F) Λ₀ .tc) PUnit) : Prog (TpuEff nD τ sig (Elt F) Λ₀ .tc) PUnit :=
  .op (.semSignal (Dev.tc n₁) barrier0 (1#32).toNat) fun _ =>
  .op (.semWait barrier0 (1#32).toNat) fun _ =>
  .op (.enqueueDma stK (.remote (Dev.tc n₂) laK (.dma (6 : Fin 10))) (.dma (8 : Fin 10)) (Memref.isWhole_whole cc0_stg1_0).wordExact
    (Memref.isWhole_whole cc0_scratch0).wordExact ⟨⟨rfl, Or.inl rfl⟩, trivial⟩) fun _ =>
  .op (.enqueueDma stV (.remote (Dev.tc n₃) laV (.dma (7 : Fin 10))) (.dma (9 : Fin 10)) (Memref.isWhole_whole cc0_stg2_0).wordExact
    (Memref.isWhole_whole cc0_scratch1).wordExact ⟨⟨rfl, Or.inl rfl⟩, trivial⟩) fun _ =>
  .op (.waitDma2 (6 : Fin 10) laK stK (Memref.isWhole_whole cc0_scratch0).wordExact (Memref.isWhole_whole cc0_stg1_0).wordExact) fun _ =>
  .op (.waitDma2 (8 : Fin 10) stK laK (Memref.isWhole_whole cc0_stg1_0).wordExact (Memref.isWhole_whole cc0_scratch0).wordExact) fun _ =>
  .op (.waitDma2 (7 : Fin 10) laV stV (Memref.isWhole_whole cc0_scratch1).wordExact (Memref.isWhole_whole cc0_stg2_0).wordExact) fun _ =>
  .op (.waitDma2 (9 : Fin 10) stV laV (Memref.isWhole_whole cc0_stg2_0).wordExact (Memref.isWhole_whole cc0_scratch1).wordExact) fun _ =>
  rest

variable (m : (ℓ : Loc nD τ sig) → Buf (Elt F) ℓ)

/-- A whole buffer seen through its memref. -/
theorem through (c : Dev nD) (b : Ref sig .tc) (f : Buf (Elt F) ((c : Thread nD τ).loc b)) :
    ((Memref.whole b).view.loc (c : Thread nD τ) ↦[(Memref.whole b).view.set]{fullShare} f : sProp 𝕄) = holds c b f := by
  rw [show (Memref.whole b).view.set = Finset.univ from View.set_whole _]

/-- Copying one whole buffer over another of the same shape leaves the source's contents, whatever was there. -/
theorem landed_K (fs : Buf (Elt F) (stK.view.loc ((0 : Dev nD) : Thread nD τ))) (fd : laK.view.ty.Contents (Elt F)) :
    laK.view.write (Elt F) fd (stK.view.read (Elt F) fs) Finset.univ = fs := by
  show (View.whole cc0_scratch0).write (Elt F) fd ((View.whole cc0_stg1_0).read (Elt F) fs) Finset.univ = fs
  rw [View.read_whole]
  exact View.write_whole_univ _ _ _

theorem landed_V (fs : Buf (Elt F) (stV.view.loc ((0 : Dev nD) : Thread nD τ))) (fd : laV.view.ty.Contents (Elt F)) :
    laV.view.write (Elt F) fd (stV.view.read (Elt F) fs) Finset.univ = fs := by
  show (View.whole cc0_scratch1).write (Elt F) fd ((View.whole cc0_stg2_0).read (Elt F) fs) Finset.univ = fs
  rw [View.read_whole]
  exact View.write_whole_univ _ _ _

/-- A semaphore of the exchange whose round is over is closed, its counter back at zero. -/
theorem closing (K : GSem nD τ sig → ℕ) (c : Dev nD) (r : Role) :
    iprop(laws m K ∗ atPos EX (cell c r) (0 + 1) ∅ 0) ⊢ (|={Set.univ}=> semVal (cell c r) 0 : sProp 𝕄) :=
  (sep_mono_left (law m K c r)).trans (Rounds.cell_close EX (plan m) (Set.mem_univ _) id (plan_over m _))

set_option maxHeartbeats 1000000 in
/-- The exchange: from the open protocol, the two landing buffers at any contents and the two staged blocks, the device comes out
    owing nothing, with the staged blocks back, the partner's blocks in the landing buffers and all five semaphores at zero. -/
theorem talk_run (c n₁ n₂ n₃ : Dev nD) (h₁ : n₁ = peer c) (h₂ : n₂ = peer c) (h₃ : n₃ = peer c) (W : Waits sig Unit)
    (rest : Prog (TpuEff nD τ sig (Elt F) Λ₀ .tc) PUnit) (Q : PUnit → sProp 𝕄) :
    iprop((ready m c ∗ holds c cc0_stg1_0 (ownK m c) ∗ holds c cc0_stg2_0 (ownV m c) ∗ owes (c : Thread nD τ) (owesAll c) W)
      ∗ ((settled m c ∗ holds c cc0_stg1_0 (ownK m c) ∗ holds c cc0_stg2_0 (ownV m c)
          ∗ ∃ W', owes (c : Thread nD τ) (0 : CellTallies nD τ sig Unit) W')
        -∗ wp frame (wpE (defs₀ (F := F)) 𝒱₀ (c : Thread nD τ) none) Set.univ rest Q))
      ⊢ wp frame (wpE (defs₀ (F := F)) 𝒱₀ (c : Thread nD τ) none) Set.univ (talk n₁ n₂ n₃ rest) Q := by
  subst h₁ h₂ h₃
  unfold talk ready opened rights
  iintro ⟨⟨⟨⟨%K, #HL, ⟨HpM, HpK, HpV, HdK, HdV, HcM, HcK, HcV⟩, HaM, #HrM, ⟨HaGK, #HrGK⟩, ⟨HaGV, #HrGV⟩, ⟨HaIK, #HrIK⟩, ⟨HaIV, #HrIV⟩, #Hlev⟩, HsK, HsV⟩, HK, HV, HO⟩, Hk⟩
  -- the word to the partner, with the landing buffers
  iapply (Rounds.wp_signal 𝒱₀ EX (plan m) (c : Thread nD τ) none (dst := (peer c : Thread nD τ)) (sem := barrier0) (r := 0) (d := ())
      (κ := K (cell (peer c) .meet)) (plan_member m (peer c) .meet) (plan_amount m (peer c) .meet) () (owesTwo c) rfl) $$ [HO HpM HsK HsV]
  · isplitr; · iapply (law m K (peer c) .meet); iexact HL
    isplitl [HO]; · iexact HO
    isplitl [HpM]; · iexact HpM
    isplitl [HsK HsV]
    · iapply (show pay m (peer c) .meet ⊢ (plan m).payload ((peer c : Thread nD τ), .reg barrier0) 0 () from
        Entails.of_eq (plan_payload m (peer c) .meet).symm)
      unfold pay
      rw [peer_peer]
      isplitl [HsK]; · iexact HsK
      isplitl [HsV]; · iexact HsV
      isplitr; · iexact HrIK
      iexact HrIV
    iexact HrM
  iintro HO
  -- the wait for the partner's word, with its landing buffers
  iapply (Rounds.wp_wait_rest_token 𝒱₀ EX (plan m) (c : Thread nD τ) none (sm := semOf .meet) (κ := K (cell c .meet))
      (wpE_semWait_eq 𝒱₀ (c : Thread nD τ) none Set.univ) (Set.mem_univ _) () (O := owesTwo c) (W := W) (R := 0) (m := 0) (T := ∅)
      ((Nat.zero_add _).trans (plan_expect m c .meet).symm)) $$ [HcM HO HaM]
  · isplitr; · iapply (law m K c .meet); iexact HL
    isplitl [HcM]; · iexact HcM
    isplitl [HO]; · iexact HO
    isplitr; · iapply (may_meet c); iexact Hlev
    iexact HaM
  iintro ⟨HO, HaM, -, Hpay⟩
  ihave Hp := (Entails.of_eq (plan_rest m c .meet)) $$ Hpay
  unfold pay
  icases Hp with ⟨⟨%gK, HlK⟩, ⟨%gV, HlV⟩, #HrPK, #HrPV⟩
  -- the K block
  unfold owesTwo
  iapply (Rounds.wp_send_pointsTo 𝒱₀ EX (plan m) (c : Thread nD τ) none (c' := (peer c : Thread nD τ)) (src := stK) (dst := laK)
      (sS := semOf .goK) (sem := semOf .inK) (q := fullShare) (fs := ownK m c) (fd := gK)
      (κ₁ := K (cell c .goK)) (κ₂ := K (cell (peer c) .inK)) (r₁ := 0) (r₂ := 0) (d₁ := ()) (d₂ := ())
      (plan_member m c .goK) (plan_member m (peer c) .inK) () () (unit .inK) rfl (plan_amount m c .goK) (plan_amount m (peer c) .inK)
      (tallyAt (cell (peer c) .inV) () (unit .inV)) rfl
      (by rw [through]; exact Entails.of_eq (plan_payload m c .goK).symm)
      (by rw [landed_K, through]
          refine (Entails.of_eq ?_).trans (Entails.of_eq (plan_payload m (peer c) .inK).symm)
          unfold pay farK; rw [peer_peer])) $$ [HK HlK HO HdK HpK]
  · isplitr; · iapply (law m K c .goK); iexact HL
    isplitr; · iapply (law m K (peer c) .inK); iexact HL
    isplitl [HK]; · iapply (Entails.of_eq (through c cc0_stg1_0 _).symm); iexact HK
    isplitl [HlK]; · iapply (Entails.of_eq (through (peer c) cc0_scratch0 _).symm); iexact HlK
    isplitl [HO]; · iexact HO
    isplitl [HdK]; · iexact HdK
    isplitr; · iexact HrGK
    isplitl [HpK]; · iexact HpK
    iexact HrPK
  iintro ⟨HcGK, HO⟩
  -- the V block
  iapply (Rounds.wp_send_pointsTo 𝒱₀ EX (plan m) (c : Thread nD τ) none (c' := (peer c : Thread nD τ)) (src := stV) (dst := laV)
      (sS := semOf .goV) (sem := semOf .inV) (q := fullShare) (fs := ownV m c) (fd := gV)
      (κ₁ := K (cell c .goV)) (κ₂ := K (cell (peer c) .inV)) (r₁ := 0) (r₂ := 0) (d₁ := ()) (d₂ := ())
      (plan_member m c .goV) (plan_member m (peer c) .inV) () () (unit .inV) rfl (plan_amount m c .goV) (plan_amount m (peer c) .inV)
      0 (zero_add _).symm
      (by rw [through]; exact Entails.of_eq (plan_payload m c .goV).symm)
      (by rw [landed_V, through]
          refine (Entails.of_eq ?_).trans (Entails.of_eq (plan_payload m (peer c) .inV).symm)
          unfold pay farV; rw [peer_peer])) $$ [HV HlV HO HdV HpV]
  · isplitr; · iapply (law m K c .goV); iexact HL
    isplitr; · iapply (law m K (peer c) .inV); iexact HL
    isplitl [HV]; · iapply (Entails.of_eq (through c cc0_stg2_0 _).symm); iexact HV
    isplitl [HlV]; · iapply (Entails.of_eq (through (peer c) cc0_scratch1 _).symm); iexact HlV
    isplitl [HO]; · iexact HO
    isplitl [HdV]; · iexact HdV
    isplitr; · iexact HrGV
    isplitl [HpV]; · iexact HpV
    iexact HrPV
  iintro ⟨HcGV, HO⟩
  -- K has left
  iapply (Rounds.wp_wait_rest_token 𝒱₀ EX (plan m) (c : Thread nD τ) none (sm := semOf .goK) (k' := unit .goK) (κ := K (cell c .goK))
      (wpE_waitDma2_eq (src := laK) (dst := stK) 𝒱₀ (c : Thread nD τ) none Set.univ) (Set.mem_univ _) () (O := 0) (R := 0) (m := 0) (T := ∅)
      ((Nat.zero_add _).trans (plan_expect m c .goK).symm)) $$ [HcGK HO HaGK]
  · isplitr; · iapply (law m K c .goK); iexact HL
    isplitl [HcGK]; · iexact HcGK
    isplitl [HO]; · iexact HO
    isplitr; · rw [MayWait_zero]; iempintro
    iexact HaGK
  iintro ⟨HO, HaGK, -, Hpay⟩
  ihave HK := (Entails.of_eq (plan_rest m c .goK)) $$ Hpay
  -- the partner's K is here
  iapply (Rounds.wp_wait_rest_token 𝒱₀ EX (plan m) (c : Thread nD τ) none (sm := semOf .inK) (k' := unit .inK) (κ := K (cell c .inK))
      (wpE_waitDma2_eq (src := stK) (dst := laK) 𝒱₀ (c : Thread nD τ) none Set.univ) (Set.mem_univ _) () (O := 0) (R := 0) (m := 0) (T := ∅)
      ((Nat.zero_add _).trans (plan_expect m c .inK).symm)) $$ [HcK HO HaIK]
  · isplitr; · iapply (law m K c .inK); iexact HL
    isplitl [HcK]; · iexact HcK
    isplitl [HO]; · iexact HO
    isplitr; · rw [MayWait_zero]; iempintro
    iexact HaIK
  iintro ⟨HO, HaIK, -, Hpay⟩
  ihave HlK := (Entails.of_eq (plan_rest m c .inK)) $$ Hpay
  -- V has left
  iapply (Rounds.wp_wait_rest_token 𝒱₀ EX (plan m) (c : Thread nD τ) none (sm := semOf .goV) (k' := unit .goV) (κ := K (cell c .goV))
      (wpE_waitDma2_eq (src := laV) (dst := stV) 𝒱₀ (c : Thread nD τ) none Set.univ) (Set.mem_univ _) () (O := 0) (R := 0) (m := 0) (T := ∅)
      ((Nat.zero_add _).trans (plan_expect m c .goV).symm)) $$ [HcGV HO HaGV]
  · isplitr; · iapply (law m K c .goV); iexact HL
    isplitl [HcGV]; · iexact HcGV
    isplitl [HO]; · iexact HO
    isplitr; · rw [MayWait_zero]; iempintro
    iexact HaGV
  iintro ⟨HO, HaGV, -, Hpay⟩
  ihave HV := (Entails.of_eq (plan_rest m c .goV)) $$ Hpay
  -- the partner's V is here
  iapply (Rounds.wp_wait_rest_token 𝒱₀ EX (plan m) (c : Thread nD τ) none (sm := semOf .inV) (k' := unit .inV) (κ := K (cell c .inV))
      (wpE_waitDma2_eq (src := stV) (dst := laV) 𝒱₀ (c : Thread nD τ) none Set.univ) (Set.mem_univ _) () (O := 0) (R := 0) (m := 0) (T := ∅)
      ((Nat.zero_add _).trans (plan_expect m c .inV).symm)) $$ [HcV HO HaIV]
  · isplitr; · iapply (law m K c .inV); iexact HL
    isplitl [HcV]; · iexact HcV
    isplitl [HO]; · iexact HO
    isplitr; · rw [MayWait_zero]; iempintro
    iexact HaIV
  iintro ⟨HO, HaIV, -, Hpay⟩
  ihave HlV := (Entails.of_eq (plan_rest m c .inV)) $$ Hpay
  -- every semaphore is closed
  imod (closing m K c .goK) $$ [HaGK] with S1
  · isplitr; · iexact HL
    iexact HaGK
  imod (closing m K c .goV) $$ [HaGV] with S2
  · isplitr; · iexact HL
    iexact HaGV
  imod (closing m K c .inK) $$ [HaIK] with S3
  · isplitr; · iexact HL
    iexact HaIK
  imod (closing m K c .inV) $$ [HaIV] with S4
  · isplitr; · iexact HL
    iexact HaIV
  imod (closing m K c .meet) $$ [HaM] with S5
  · isplitr; · iexact HL
    iexact HaM
  iapply Hk
  unfold settled quiet pay
  isplitl [HlK HlV S1 S2 S3 S4 S5]
  · isplitl [HlK]; · iexact HlK
    isplitl [HlV]; · iexact HlV
    isplitl [S1]; · iexact S1
    isplitl [S2]; · iexact S2
    isplitl [S3]; · iexact S3
    isplitl [S4]; · iexact S4
    iexact S5
  isplitl [HK]; · iexact HK
  isplitl [HV]; · iexact HV
  iexists _
  iexact HO

end Cert.KernelIdeal.Exchange

end
-- ==== Proof.Body.lean ====
/-
The kernel's body at every grid point: the proof data of its pipeline, and that the body meets them.
-/
module

public import proofs.«01_k».proof.Proof.Talk

@[expose] public section

set_option maxRecDepth 16384

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The body as a program -/

/-- At the first grid point the body is the exchange and then the arithmetic. -/
theorem body_first (i : grid0.Coords) (h : k0_cond1 i = 1#1) (a1 : Memref sig .tc .vmem S1x256x64 .bf16) (h1 : a1.IsWhole)
    (a4 : Memref sig .tc .vmem S1x256x64 .f32) (h4 : a4.IsWhole) :
    cc0__body (F := F) i a1 h1 stK (Memref.isWhole_whole _) stV (Memref.isWhole_whole _) a4 h4 laK (Memref.isWhole_whole _) laV (Memref.isWhole_whole _)
        cc0_scratch2 cc0_scratch3
      = .op .deviceId fun d => talk ⟨k0_dev1 d, k0_dev1_lt i d h⟩ ⟨k0_dev2 d, k0_dev2_lt i d h⟩ ⟨k0_dev3 d, k0_dev3_lt i d h⟩
          (compute i a1 stK stV a4 laK laV) := by
  simp only [cc0__body_eq_skeleton]
  unfold cc0__body_skel
  simp only [k0_part2_eq_skeleton]
  unfold k0_part2_skel
  simp only [dif_pos h, k0_part1_eq_skeleton]
  rfl

/-- At every other grid point it is the arithmetic alone. -/
theorem body_later (i : grid0.Coords) (h : ¬k0_cond1 i = 1#1) (a1 : Memref sig .tc .vmem S1x256x64 .bf16) (h1 : a1.IsWhole)
    (a4 : Memref sig .tc .vmem S1x256x64 .f32) (h4 : a4.IsWhole) :
    cc0__body (F := F) i a1 h1 stK (Memref.isWhole_whole _) stV (Memref.isWhole_whole _) a4 h4 laK (Memref.isWhole_whole _) laV (Memref.isWhole_whole _)
        cc0_scratch2 cc0_scratch3
      = .op .deviceId fun _ => compute i a1 stK stV a4 laK laV := by
  simp only [cc0__body_eq_skeleton]
  unfold cc0__body_skel
  simp only [k0_part2_eq_skeleton]
  unfold k0_part2_skel
  simp only [dif_neg h]
  rfl

/-- The exchange belongs to the first grid point only. -/
theorem cond_iff : ∀ t : Fin grid0.N, k0_cond1 (grid0.coords t) = 1#1 ↔ t.val = 0 := by decide +kernel

/-! ## The proof data -/

/-- What a device writes back at a grid point. -/
def outAt (c : Dev nD) (t : Fin cfg0.N) : S1x256x64.Idx → Elt F .f32 :=
  attn (grid0.coords t) (iblk m c 0 t) (iblk m c 1 t) (iblk m c 2 t) (farK m c) (farV m c)

/-- A device's random-number register, at whatever value it has. -/
def dice (c : Dev nD) : sProp 𝕄 := iprop(∃ r, prngReg c r)

/-- The proof data of the kernel's pipeline on one device. -/
def dat0 (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := match t with
    | ⟨0, _⟩ => iprop(ready m c ∗ dice c)
    | ⟨_ + 1, _⟩ => iprop(settled m c ∗ dice c)
  q _ := fullShare
  owed t := match t with
    | ⟨0, _⟩ => owesAll c
    | ⟨_ + 1, _⟩ => 0

/-- Each input window's buffer holds its block when the body starts. -/
theorem before_in0 (c : Dev nD) (t : Fin cfg0.N) (d) : (dat0 m c).before 0 t d = iblk m c 0 t :=
  ((dat0 m c).before_in_eq_fetched 0 rfl (fun _ => rfl) (fun _ _ _ => rfl) (fun t => rfl) t d).trans rfl
theorem before_in1 (c : Dev nD) (t : Fin cfg0.N) (d) : (dat0 m c).before 1 t d = iblk m c 1 t :=
  ((dat0 m c).before_in_eq_fetched 1 rfl (fun _ => rfl) (fun _ _ _ => rfl) (fun t => rfl) t d).trans rfl
theorem before_in2 (c : Dev nD) (t : Fin cfg0.N) (d) : (dat0 m c).before 2 t d = iblk m c 2 t :=
  ((dat0 m c).before_in_eq_fetched 2 rfl (fun _ => rfl) (fun _ _ _ => rfl) (fun t => rfl) t d).trans rfl

/-- Owning a whole memref is holding its buffer. -/
theorem owns_holds (c : Dev nD) (b : Ref sig .tc) (X : b.ty.Contents (Elt F)) :
    (owns (Ix := Unit) (Name := ℕ) (U := UU) (Lvl := ℕ) (c : Thread nD τ) (Memref.whole b) fullShare X : sProp 𝕄) ⊣⊢ holds c b X := by
  have e : (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ holds c b f) := by
    unfold owns; simp only [Memref.view_whole, View.read_whole, View.set_whole]
  rw [e]
  constructor
  · iintro ⟨%f, %hf, H⟩
    subst hf
    iexact H
  · iintro H
    iexists X
    isplitr; · ipureintro; rfl
    iexact H

/-- What the body starts from and ends in, apart from the window buffers. -/
abbrev stateAt (c : Dev nD) (t : Fin (cfg0.N + 1)) : sProp 𝕄 := iprop((dat0 m c).Φ t ∗ (dat0 m c).owesAt () t)

/-- At the first grid point the body runs the exchange and stores the first head's attention block. -/
theorem body_at_first (c : Dev nD) (a1 : Memref sig .tc .vmem S1x256x64 .bf16) (h1 : a1.IsWhole)
    (a4 : Memref sig .tc .vmem S1x256x64 .f32) (h4 : a4.IsWhole) (W : Waits sig Unit) (o : S1x256x64.Idx → Elt F .f32) (Q : PUnit → sProp 𝕄) :
    iprop((ready m c ∗ owes (c : Thread nD τ) (owesAll c) W ∗ owns (c : Thread nD τ) a1 fullShare (iblk m c 0 t₀)
        ∗ owns (c : Thread nD τ) stK fullShare (iblk m c 1 t₀) ∗ owns (c : Thread nD τ) stV fullShare (iblk m c 2 t₀)
        ∗ owns (c : Thread nD τ) a4 fullShare o)
      ∗ ((settled m c ∗ (∃ W', owes (c : Thread nD τ) (0 : CellTallies nD τ sig Unit) W') ∗ owns (c : Thread nD τ) a1 fullShare (iblk m c 0 t₀)
        ∗ owns (c : Thread nD τ) stK fullShare (iblk m c 1 t₀) ∗ owns (c : Thread nD τ) stV fullShare (iblk m c 2 t₀)
        ∗ owns (c : Thread nD τ) a4 fullShare (outAt m c t₀)) -∗ Q ⟨⟩))
      ⊢ wp frame (wpE (defs₀ (F := F)) 𝒱₀ (c : Thread nD τ) none) Set.univ
          (cc0__body (F := F) (grid0.coords t₀) a1 h1 stK (Memref.isWhole_whole _) stV (Memref.isWhole_whole _) a4 h4 laK (Memref.isWhole_whole _)
            laV (Memref.isWhole_whole _) cc0_scratch2 cc0_scratch3) Q := by
  have hc : k0_cond1 (grid0.coords t₀) = 1#1 := (cond_iff t₀).mpr rfl
  rw [body_first (grid0.coords t₀) hc, wp_deviceId]
  iintro ⟨⟨Hr, HO, H1, HK, HV, H4⟩, Hk⟩
  iapply (talk_run m c _ _ _ (Fin.ext ((k0_dev1_eq c).trans (peer_val c))) (Fin.ext ((k0_dev2_eq c).trans (peer_val c)))
    (Fin.ext ((k0_dev3_eq c).trans (peer_val c))) W)
  isplitl [Hr HO HK HV]
  · isplitl [Hr]; · iexact Hr
    isplitl [HK]; · iapply (owns_holds c cc0_stg1_0 _).1; iexact HK
    isplitl [HV]; · iapply (owns_holds c cc0_stg2_0 _).1; iexact HV
    iexact HO
  iintro ⟨Hs, HK, HV, HO⟩
  unfold settled
  icases Hs with ⟨HlK, HlV, Hq⟩
  iapply (compute_run c (grid0.coords t₀) a1 stK stV a4 laK laV (iblk m c 0 t₀) (iblk m c 1 t₀) (iblk m c 2 t₀) (farK m c) (farV m c) o)
  isplitl [H1 HK HV H4 HlK HlV]
  · isplitl [H1]; · iexact H1
    isplitl [HK]; · iapply (owns_holds c cc0_stg1_0 _).2; iexact HK
    isplitl [HV]; · iapply (owns_holds c cc0_stg2_0 _).2; iexact HV
    isplitl [H4]; · iexact H4
    isplitl [HlK]; · iapply (owns_holds c cc0_scratch0 _).2; iexact HlK
    iapply (owns_holds c cc0_scratch1 _).2; iexact HlV
  iintro ⟨H1, HK, HV, H4, HlK, HlV⟩
  iapply Hk
  isplitl [HlK HlV Hq]
  · isplitl [HlK]; · iapply (owns_holds c cc0_scratch0 _).1; iexact HlK
    isplitl [HlV]; · iapply (owns_holds c cc0_scratch1 _).1; iexact HlV
    iexact Hq
  isplitl [HO]; · iexact HO
  isplitl [H1]; · iexact H1
  isplitl [HK]; · iexact HK
  isplitl [HV]; · iexact HV
  iexact H4

/-- At every later grid point the body reads the partner's blocks where the exchange left them and stores its head's block. -/
theorem body_at_later (c : Dev nD) (t : Fin cfg0.N) (ht : t.val ≠ 0) (a1 : Memref sig .tc .vmem S1x256x64 .bf16) (h1 : a1.IsWhole)
    (a4 : Memref sig .tc .vmem S1x256x64 .f32) (h4 : a4.IsWhole) (o : S1x256x64.Idx → Elt F .f32) (Q : PUnit → sProp 𝕄) :
    iprop((settled m c ∗ owns (c : Thread nD τ) a1 fullShare (iblk m c 0 t)
        ∗ owns (c : Thread nD τ) stK fullShare (iblk m c 1 t) ∗ owns (c : Thread nD τ) stV fullShare (iblk m c 2 t)
        ∗ owns (c : Thread nD τ) a4 fullShare o)
      ∗ ((settled m c ∗ owns (c : Thread nD τ) a1 fullShare (iblk m c 0 t)
        ∗ owns (c : Thread nD τ) stK fullShare (iblk m c 1 t) ∗ owns (c : Thread nD τ) stV fullShare (iblk m c 2 t)
        ∗ owns (c : Thread nD τ) a4 fullShare (outAt m c t)) -∗ Q ⟨⟩))
      ⊢ wp frame (wpE (defs₀ (F := F)) 𝒱₀ (c : Thread nD τ) none) Set.univ
          (cc0__body (F := F) (grid0.coords t) a1 h1 stK (Memref.isWhole_whole _) stV (Memref.isWhole_whole _) a4 h4 laK (Memref.isWhole_whole _)
            laV (Memref.isWhole_whole _) cc0_scratch2 cc0_scratch3) Q := by
  have hc : ¬k0_cond1 (grid0.coords t) = 1#1 := fun h => ht ((cond_iff t).mp h)
  rw [body_later (grid0.coords t) hc, wp_deviceId]
  unfold settled
  iintro ⟨⟨⟨HlK, HlV, Hq⟩, H1, HK, HV, H4⟩, Hk⟩
  iapply (compute_run c (grid0.coords t) a1 stK stV a4 laK laV (iblk m c 0 t) (iblk m c 1 t) (iblk m c 2 t) (farK m c) (farV m c) o)
  isplitl [H1 HK HV H4 HlK HlV]
  · isplitl [H1]; · iexact H1
    isplitl [HK]; · iexact HK
    isplitl [HV]; · iexact HV
    isplitl [H4]; · iexact H4
    isplitl [HlK]; · iapply (owns_holds c cc0_scratch0 _).2; iexact HlK
    iapply (owns_holds c cc0_scratch1 _).2; iexact HlV
  iintro ⟨H1, HK, HV, H4, HlK, HlV⟩
  iapply Hk
  isplitl [HlK HlV Hq]
  · isplitl [HlK]; · iapply (owns_holds c cc0_scratch0 _).1; iexact HlK
    isplitl [HlV]; · iapply (owns_holds c cc0_scratch1 _).1; iexact HlV
    iexact Hq
  isplitl [H1]; · iexact H1
  isplitl [HK]; · iexact HK
  isplitl [HV]; · iexact HV
  iexact H4

end Cert.KernelIdeal.Exchange

end
-- ==== Proof.Oblige.lean ====
/-
The body meets the proof data of its pipeline at every grid point.
-/
module

public import proofs.«01_k».proof.Proof.Body

@[expose] public section

set_option maxRecDepth 16384

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-- A device's debt, whatever its record of waits, is what the pipeline keeps of it. -/
theorem debt_in (c : Dev nD) (t : Fin (cfg0.N + 1)) (O : CellTallies nD τ sig Unit) (h : (dat0 m c).owed t = O) :
    iprop(∃ W, owes (c : Thread nD τ) O W) ⊢ ((dat0 m c).owesAt () t : sProp 𝕄) := by
  unfold Dat.owesAt Pipeline.owesWithin Dat.bound
  rw [h, show (dat0 m c).recorded t = Set.univ from rfl]
  iintro ⟨%W, HO⟩
  iexists W
  isplitr; · ipureintro; exact fun _ _ => Or.inl trivial
  iexact HO

theorem debt_out (c : Dev nD) (t : Fin (cfg0.N + 1)) (O : CellTallies nD τ sig Unit) (h : (dat0 m c).owed t = O) :
    ((dat0 m c).owesAt () t : sProp 𝕄) ⊢ iprop(∃ W, owes (c : Thread nD τ) O W) := by
  unfold Dat.owesAt Pipeline.owesWithin
  rw [h]
  iintro ⟨%W, -, HO⟩
  iexists W
  iexact HO

/-- The proof data at the first point, and at any point after it. -/
theorem owed_later (c : Dev nD) (t : Fin (cfg0.N + 1)) (ht : t.val ≠ 0) : (dat0 m c).owed t = 0 := by
  obtain ⟨_ | n, hn⟩ := t
  · exact absurd rfl ht
  · rfl

theorem inv_later (c : Dev nD) (t : Fin (cfg0.N + 1)) (ht : t.val ≠ 0) : (dat0 m c).Φ t = iprop(settled m c ∗ dice c) := by
  obtain ⟨_ | n, hn⟩ := t
  · exact absurd rfl ht
  · rfl

/-- What the pipeline calls at a grid point: the body on the current buffers of the first and last window and the only
    buffers of the other two. -/
theorem called (t : Fin cfg0.N) :
    defs₀ (F := F) .tc 0 (t, cfg0.slots t)
      = cc0__body (F := F) (grid0.coords t) (st0_0 t) (hstage0_0 _) stK (Memref.isWhole_whole _) stV (Memref.isWhole_whole _)
          (st0_3 t) (hstage0_3 _) laK (Memref.isWhole_whole _) laV (Memref.isWhole_whole _) cc0_scratch2 cc0_scratch3 := by
  have h : ∀ (u v : Fin 1), cc0__body (F := F) (grid0.coords t) (st0_0 t) (hstage0_0 _) (win0_1.stage u) (hstage0_1 (u.cast nbuf0_1))
        (win0_2.stage v) (hstage0_2 (v.cast nbuf0_2)) (st0_3 t) (hstage0_3 _) laK (Memref.isWhole_whole _) laV (Memref.isWhole_whole _)
        cc0_scratch2 cc0_scratch3
      = cc0__body (F := F) (grid0.coords t) (st0_0 t) (hstage0_0 _) stK (Memref.isWhole_whole _) stV (Memref.isWhole_whole _)
          (st0_3 t) (hstage0_3 _) laK (Memref.isWhole_whole _) laV (Memref.isWhole_whole _) cc0_scratch2 cc0_scratch3 := by
    intro u v
    obtain rfl : u = 0 := Subsingleton.elim _ _
    obtain rfl : v = 0 := Subsingleton.elim _ _
    rfl
  exact h (cfg0.slots t 1) (cfg0.slots t 2)

theorem only_K (t : Fin cfg0.N) : (cfg0.win 1).stage (cfg0.slots t 1) = stK := by
  have h : ∀ u : Fin 1, win0_1.stage u = stK := fun u => by
    obtain rfl : u = 0 := Subsingleton.elim _ _
    rfl
  exact h _

theorem only_V (t : Fin cfg0.N) : (cfg0.win 2).stage (cfg0.slots t 2) = stV := by
  have h : ∀ u : Fin 1, win0_2.stage u = stV := fun u => by
    obtain rfl : u = 0 := Subsingleton.elim _ _
    rfl
  exact h _

/-- The body's obligation to the pipeline, at every grid point. -/
theorem obliged (c : Dev nD) : BodyObligation (dat0 m c) (defs₀ (F := F)) 𝒱₀ () Set.univ := fun t => by
  rw [bigSep_W0, bigSep_W0]
  show iprop((dat0 m c).Φ t.castSucc ∗ (dat0 m c).owesAt () t.castSucc
      ∗ (∃ d, owns (c : Thread nD τ) (st0_0 t) fullShare ((dat0 m c).before 0 t d))
      ∗ (∃ d, owns (c : Thread nD τ) ((cfg0.win 1).stage (cfg0.slots t 1)) fullShare ((dat0 m c).before 1 t d))
      ∗ (∃ d, owns (c : Thread nD τ) ((cfg0.win 2).stage (cfg0.slots t 2)) fullShare ((dat0 m c).before 2 t d))
      ∗ (∃ d, owns (c : Thread nD τ) (st0_3 t) fullShare ((dat0 m c).before 3 t d)))
    ⊢ wp frame (wpE (defs₀ (F := F)) 𝒱₀ (c : Thread nD τ) none) Set.univ (defs₀ (F := F) .tc 0 (t, cfg0.slots t)) fun _ =>
      iprop((dat0 m c).Φ t.succ ∗ (dat0 m c).owesAt () t.succ
        ∗ owns (c : Thread nD τ) (st0_0 t) fullShare (iblk m c 0 t)
        ∗ owns (c : Thread nD τ) ((cfg0.win 1).stage (cfg0.slots t 1)) fullShare (iblk m c 1 t)
        ∗ owns (c : Thread nD τ) ((cfg0.win 2).stage (cfg0.slots t 2)) fullShare (iblk m c 2 t)
        ∗ owns (c : Thread nD τ) (st0_3 t) fullShare (outAt m c t))
  rw [called, only_K, only_V, inv_later m c t.succ (Nat.succ_ne_zero _)]
  simp only [before_in0, before_in1, before_in2]
  by_cases ht : t.val = 0
  · obtain rfl : t = t₀ := Fin.ext ht
    rw [show (dat0 m c).Φ (t₀ : Fin cfg0.N).castSucc = iprop(ready m c ∗ dice c) from rfl]
    iintro ⟨⟨Hr, Hd⟩, HO, ⟨%d0, H0⟩, ⟨%d1, H1⟩, ⟨%d2, H2⟩, ⟨%d3, H3⟩⟩
    ihave HO' := (debt_out m c (t₀ : Fin cfg0.N).castSucc (owesAll c) rfl) $$ HO
    icases HO' with ⟨%W, HO⟩
    iapply (body_at_first m c _ _ _ _ W _ _)
    isplitl [Hr HO H0 H1 H2 H3]
    · isplitl [Hr]; · iexact Hr
      isplitl [HO]; · iexact HO
      isplitl [H0]; · iexact H0
      isplitl [H1]; · iexact H1
      isplitl [H2]; · iexact H2
      iexact H3
    iintro ⟨Hs, HO, H0, H1, H2, H3⟩
    isplitl [Hs Hd]; · isplitl [Hs] <;> iassumption
    isplitl [HO]; · iapply (debt_in m c (t₀ : Fin cfg0.N).succ 0 (owed_later m c _ (Nat.succ_ne_zero _))); iexact HO
    isplitl [H0]; · iexact H0
    isplitl [H1]; · iexact H1
    isplitl [H2]; · iexact H2
    iexact H3
  · rw [inv_later m c t.castSucc ht]
    iintro ⟨⟨Hr, Hd⟩, HO, ⟨%d0, H0⟩, ⟨%d1, H1⟩, ⟨%d2, H2⟩, ⟨%d3, H3⟩⟩
    iapply (body_at_later m c t ht _ _ _ _ _ _)
    isplitl [Hr H0 H1 H2 H3]
    · isplitl [Hr]; · iexact Hr
      isplitl [H0]; · iexact H0
      isplitl [H1]; · iexact H1
      isplitl [H2]; · iexact H2
      iexact H3
    iintro ⟨Hs, H0, H1, H2, H3⟩
    isplitl [Hs Hd]; · isplitl [Hs] <;> iassumption
    isplitl [HO]
    · ihave HO' := (debt_out m c t.castSucc 0 (owed_later m c _ ht)) $$ HO
      iapply (debt_in m c t.succ 0 (owed_later m c _ (Nat.succ_ne_zero _)))
      iexact HO'
    isplitl [H0]; · iexact H0
    isplitl [H1]; · iexact H1
    isplitl [H2]; · iexact H2
    iexact H3

end Cert.KernelIdeal.Exchange

end
-- ==== Proof.Region.lean ====
/-
The three segments of a device's program: the host operations before the kernel, the kernel, the host operations after it.
-/
module

public import proofs.«01_k».proof.Proof.Oblige
public import Idealize.ShloMosaic.Lib.Pipeline.FrameTail
public import Idealize.ShloMosaic.Lib.Pipeline.RegionArraysS
public import Idealize.ShloMosaic.Lib.Pipeline.RegionTalk

@[expose] public section

set_option maxRecDepth 16384

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## What the buffers hold along the way -/

/-- The buffers a program can name outside a kernel. -/
abbrev pool : Finset (DevRef τ sig) := Pipeline.ucRefs τ sig

/-- A device's buffers at the start. -/
abbrev at0 (c : Dev nD) : Valuation τ sig (Elt F) := fun b => m (c, b)
/-- A device's buffers after the kernel. -/
def at2 (c : Dev nD) : Valuation τ sig (Elt F) := Pipeline.afterRegion (dat0 m c) (V0 m c)
/-- A device's buffers at the end. -/
def at3 (c : Dev nD) : Valuation τ sig (Elt F) := StableHlo.after hostOps1 (at2 m c)

/-- The buffers apart from the kernel's four arrays. -/
abbrev aside : Finset (DevRef τ sig) := pool \ Pipeline.arrRefs (τ := τ) spec0

theorem arrays_sub : Pipeline.arrRefs (τ := τ) spec0 ⊆ pool := by decide

/-! ## The kernel as a region -/

abbrev adm : (p : Fin 1) → (pcfgs (F := F) p).Adm := fun p => (cfgs p).toPCfg_adm

def pdats : (p : Fin 1) → (c : Dev nD) → Dat τ (Elt F) Unit ℕ UU ℕ (Pipeline.pin (pcfgs (F := F)) adm p) c
  | 0 => dat0 m

/-- The four transfer semaphores, which belong to the kernel. -/
abbrev transfer : Fin 4 → SemLoc sig := ![semOf .goK, semOf .goV, semOf .inK, semOf .inV]

theorem four {M : Type} [URA M] (Φ : Fin 4 → sProp M) : bigSep Finset.univ Φ = iprop(Φ 0 ∗ Φ 1 ∗ Φ 2 ∗ Φ 3) :=
  bigSep_W0 Φ

theorem own_semaphores (c : Dev nD) :
    (Pipeline.ownSems0 transfer c : sProp 𝕄)
      = iprop(semVal (cell c .goK) 0 ∗ semVal (cell c .goV) 0 ∗ semVal (cell c .inK) 0 ∗ semVal (cell c .inV) 0) :=
  four fun k : Fin 4 => (semVal ((c : Thread nD τ), transfer k) 0 : sProp 𝕄)

/-- Entering the kernel opens its four transfer semaphores. -/
theorem open_all (c : Dev nD) :
    iprop(carried m c ∗ Pipeline.ownSems0 transfer c ∗ levAts ranked rank) ⊢ (|={Set.univ}=> opened m c : sProp 𝕄) := by
  rw [own_semaphores]
  unfold carried opened
  iintro ⟨⟨%K, #HL, HR, HA, #HM, O1, O2, O3, O4⟩, ⟨S1, S2, S3, S4⟩, #Hlev⟩
  imod (Rounds.cell_open EX (plan m) (g := cell c .goK) (Set.mem_univ (K (cell c .goK)))) $$ [O1 S1] with ⟨A1, #R1⟩
  · isplitr; · iapply (law m K c .goK); iexact HL
    isplitl [O1] <;> iassumption
  imod (Rounds.cell_open EX (plan m) (g := cell c .goV) (Set.mem_univ (K (cell c .goV)))) $$ [O2 S2] with ⟨A2, #R2⟩
  · isplitr; · iapply (law m K c .goV); iexact HL
    isplitl [O2] <;> iassumption
  imod (Rounds.cell_open EX (plan m) (g := cell c .inK) (Set.mem_univ (K (cell c .inK)))) $$ [O3 S3] with ⟨A3, #R3⟩
  · isplitr; · iapply (law m K c .inK); iexact HL
    isplitl [O3] <;> iassumption
  imod (Rounds.cell_open EX (plan m) (g := cell c .inV) (Set.mem_univ (K (cell c .inV)))) $$ [O4 S4] with ⟨A4, #R4⟩
  · isplitr; · iapply (law m K c .inV); iexact HL
    isplitl [O4] <;> iassumption
  imodintro
  iexists K
  isplitr; · iexact HL
  isplitl [HR]; · iexact HR
  isplitl [HA]; · iexact HA
  isplitr; · iexact HM
  isplitl [A1]; · isplitl [A1]; · iexact A1
                  iexact R1
  isplitl [A2]; · isplitl [A2]; · iexact A2
                  iexact R2
  isplitl [A3]; · isplitl [A3]; · iexact A3
                  iexact R3
  isplitl [A4]; · isplitl [A4]; · iexact A4
                  iexact R4
  iexact Hlev

/-- What the kernel starts from. -/
theorem enter (c : Dev nD) :
    iprop(Pipeline.scopedRest (Pipeline.pin (pcfgs (F := F)) adm 0).spec c ∗ (∃ r, prngReg c r)
        ∗ StableHlo.held (c.tc : Thread nD τ) ∅ (V0 m c) ∗ opened m c)
      ⊢ (pdats m 0 c).Φ 0 := by
  show iprop(Pipeline.scopedRest spec0 c ∗ (∃ r, prngReg c r) ∗ StableHlo.held (c.tc : Thread nD τ) ∅ (V0 m c) ∗ opened m c)
    ⊢ iprop(ready m c ∗ dice c)
  rw [scopedRest0_eq]
  unfold ready dice
  iintro ⟨⟨HK, HV⟩, Hd, -, HO⟩
  isplitr [Hd]
  · isplitl [HO]; · iexact HO
    isplitl [HK] <;> iassumption
  · iexact Hd

/-- What the kernel ends in. -/
theorem leave (c : Dev nD) :
    (pdats m 0 c).Φ (Fin.last (Pipeline.pin (pcfgs (F := F)) adm 0).N)
      ⊢ iprop(Pipeline.scopedRest (Pipeline.pin (pcfgs (F := F)) adm 0).spec c ∗ (∃ r, prngReg c r)
        ∗ StableHlo.held (c.tc : Thread nD τ) ∅ (at2 m c) ∗ Pipeline.ownSems0 transfer c ∗ semVal (cell c .meet) 0) := by
  rw [show (pdats m 0 c).Φ (Fin.last (Pipeline.pin (pcfgs (F := F)) adm 0).N) = iprop(settled m c ∗ dice c) from
    inv_later m c (Fin.last cfg0.N) (by rw [Fin.val_last]; decide)]
  rw [own_semaphores]
  show _ ⊢ iprop(Pipeline.scopedRest spec0 c ∗ (∃ r, prngReg c r) ∗ StableHlo.held (c.tc : Thread nD τ) ∅ (at2 m c)
    ∗ (semVal (cell c .goK) 0 ∗ semVal (cell c .goV) 0 ∗ semVal (cell c .inK) 0 ∗ semVal (cell c .inV) 0) ∗ semVal (cell c .meet) 0)
  rw [scopedRest0_eq]
  unfold settled quiet dice StableHlo.held
  rw [BI.bigSep_empty]
  iintro ⟨⟨HK, HV, Q1, Q2, Q3, Q4, Q5⟩, Hd⟩
  isplitl [HK HV]
  · isplitl [HK]
    · iexists (farK m c); iexact HK
    · iexists (farV m c); iexact HV
  isplitl [Hd]; · iexact Hd
  isplitr; · iempintro
  isplitr [Q5]
  · isplitl [Q1]; · iexact Q1
    isplitl [Q2]; · iexact Q2
    isplitl [Q3] <;> iassumption
  iexact Q5

/-- What a device owes during the kernel ranks above the pipeline's own waits. -/
theorem debts_rank (c : Dev nD) (t : Fin (cfg0.N + 1)) (g : GSem nD τ sig) (u : Unit) (h : 0 < (dat0 m c).owed t g u) :
    u ∈ ranked g ∧ (0 : ℕ) < rank g u := by
  by_cases ht : t.val = 0
  · obtain rfl : t = 0 := Fin.ext ht
    obtain ⟨r, hr, rfl⟩ := owesAll_cases (c := c) h
    refine ⟨(ranked_tc _ _).symm ▸ Finset.mem_singleton_self _, ?_⟩
    unfold rank
    dsimp only
    rw [roleOf_semOf]
    rcases hr with rfl | rfl | rfl
    · exact Nat.one_pos
    · exact Nat.two_pos
    · exact Nat.two_pos
  · rw [owed_later m c t ht] at h
    exact absurd h (Nat.lt_irrefl 0)

/-- The kernel holds each of its arrays whole. -/
theorem whole_share (c : Dev nD) (w : Fin cfg0.W) : (dat0 m c).share w = fullShare := by
  unfold Dat.share
  split <;> rfl

/-- The pipeline's own semaphores play no role in the exchange, and rank lowest. -/
theorem staging_role : ∀ (w : Fin cfg0.W) (s : Fin (cfg0.win w).nbuf), roleOf (.dma ((cfg0.win w).sem s)) = none := by decide

theorem staging_rank (c : Dev nD) (w : Fin cfg0.W) (s : Fin (cfg0.win w).nbuf) :
    rank ((c : Thread nD τ), .dma ((cfg0.win w).sem s)) () ≤ 0 := by
  unfold rank
  dsimp only
  rw [staging_role w s]

set_option backward.isDefEq.respectTransparency.types false in
/-- The kernel. -/
def region : Pipeline.RegionSeg (pcfgs (F := F)) adm (pdats m) () defs₀ 𝒱₀ ranked rank 0 :=
  Pipeline.RegionSeg.ofTalk (pcfgs (F := F)) adm (pdats m) () defs₀ 𝒱₀ ranked rank 0
    transfer (by decide : Pipeline.OwnSemFacts spec0 transfer)
    ∅ aside (Finset.empty_subset _) (Gen.launch0.toP (Val := Elt F)) rfl (fun c => (obliged m c).loose)
    (fun _ => 0) owesAll (fun c => (zero_add (owesAll c)).symm)
    (fun c => owed_later m c (Fin.last cfg0.N) (by rw [Fin.val_last]; decide))
    (fun _ => rfl) (whole_share m)
    (V0 m) (at2 m) (fun c b hb => Pipeline.afterRegion_off (dat0 m c) (V0 m c) pool b (Finset.mem_sdiff.mp hb).1)
    (carried m) (fun c => semVal (cell c .meet) 0) (opened m) (fun c => semVal (cell c .meet) 0)
    (open_all m) (enter m) (leave m) (fun c => by iintro H; imodintro; iexact H)
    (fun _ => 0)
    ⟨fun c w s => (ranked_tc _ _).symm ▸ Finset.mem_singleton_self _, staging_rank, fun c t g i h => debts_rank m c t g i h⟩
    (fun _ => iprop(emp))
    (fun c w => rfl)
    (fun c w => (Pipeline.afterRegion_arr (dat0 m c) (V0 m c) winFacts0.arr_inj w).symm)

/-! ## The three segments -/

/-- What rides beside the buffers up to the kernel. -/
def before (c : Dev nD) : sProp 𝕄 :=
  iprop(carried m c ∗ dice c ∗ ∃ W, owes (c : Thread nD τ) (owesAll c) W)
/-- What rides beside them after it. -/
def behind (c : Dev nD) : sProp 𝕄 :=
  iprop(semVal (cell c .meet) 0 ∗ ∃ W, owes (c : Thread nD τ) (0 : CellTallies nD τ sig Unit) W)

/-- The host operations before the kernel. -/
def first : Pipeline.HostSeg (Name := ℕ) (U := UU) (pcfgs (F := F)) defs₀ 𝒱₀ ranked rank :=
  Pipeline.HostSeg.ofOps _ _ _ _ _ pool hostOps0
    (fun op h => Pipeline.sub_ucRefs op (List.forall_iff_forall_mem.mp hostOps0_sub op h))
    (fun op h => List.forall_iff_forall_mem.mp hostOps0_fresh op h) (at0 m) (before m)

/-- The host operations after the kernel. -/
def last : Pipeline.HostSeg (Name := ℕ) (U := UU) (pcfgs (F := F)) defs₀ 𝒱₀ ranked rank :=
  Pipeline.HostSeg.ofOps _ _ _ _ _ pool hostOps1
    (fun op h => Pipeline.sub_ucRefs op (List.forall_iff_forall_mem.mp hostOps1_sub op h))
    (fun op h => List.forall_iff_forall_mem.mp hostOps1_fresh op h) (at2 m) behind

/-- The state after the first host operations is the state before the kernel. -/
theorem join_in (c : Dev nD) : (first m).post c ⊢ (region m).pre c := by
  show iprop(StableHlo.held (c.tc : Thread nD τ) pool (V0 m c) ∗ before m c)
    ⊢ iprop(StableHlo.held (c.tc : Thread nD τ) (Pipeline.arrRefs (τ := τ) spec0) (V0 m c) ∗ (∃ r, prngReg c r)
      ∗ (StableHlo.held (c.tc : Thread nD τ) aside (V0 m c) ∗ emp) ∗ carried m c ∗ ∃ W, owes (c : Thread nD τ) (0 + owesAll c) W)
  rw [StableHlo.held_sub_split (c.tc : Thread nD τ) arrays_sub (V0 m c), zero_add]
  unfold before dice
  iintro ⟨⟨HA, HB⟩, HC, HD, HO⟩
  isplitl [HA]; · iexact HA
  isplitl [HD]; · iexact HD
  isplitl [HB]
  · isplitl [HB]; · iexact HB
    iempintro
  isplitl [HC] <;> iassumption

/-- The state after the kernel is the state before the last host operations. -/
theorem join_out (c : Dev nD) : (region m).post c ⊢ (last m).pre c := by
  show iprop(StableHlo.held (c.tc : Thread nD τ) (Pipeline.arrRefs (τ := τ) spec0) (at2 m c) ∗ (∃ r, prngReg c r)
      ∗ (StableHlo.held (c.tc : Thread nD τ) aside (at2 m c) ∗ emp) ∗ semVal (cell c .meet) 0
      ∗ ∃ W, owes (c : Thread nD τ) (0 : CellTallies nD τ sig Unit) W)
    ⊢ iprop(StableHlo.held (c.tc : Thread nD τ) pool (at2 m c) ∗ behind c)
  rw [StableHlo.held_sub_split (c.tc : Thread nD τ) arrays_sub (at2 m c)]
  unfold behind
  iintro ⟨HA, -, ⟨HB, -⟩, HM, HO⟩
  isplitl [HA HB]; · isplitl [HA] <;> iassumption
  isplitl [HM] <;> iassumption

/-- The device's program as its three segments. -/
def pieces : List (Pipeline.Seg (pcfgs (F := F)) adm (pdats m) () defs₀ 𝒱₀ ranked rank) :=
  [.host (first m), .region (region m), .host (last m)]

theorem main_pieces (c : Dev nD) : main (F := F) c = Pipeline.Seg.run (pieces m) :=
  main_segs adm (pdats m) () 𝒱₀ ranked rank (first m) (last m) (region m) rfl rfl c

end Cert.KernelIdeal.Exchange

end
-- ==== Proof.Launch.lean ====
/-
The launch and the run: the ghost state of the exchange is set up and dealt to the devices, and every execution of the whole
program ends with the buffers at `at3` and with all semaphores at zero.
-/
module

public import proofs.«01_k».proof.Proof.Region

@[expose] public section

set_option maxRecDepth 16384

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The cells of the exchange -/

def meetCell : Dev nD ↪ GSem nD τ sig :=
  ⟨fun c => cell c .meet, fun c d h => congrArg Prod.fst (cell_injective (a₁ := (c, Role.meet)) (a₂ := (d, Role.meet)) h)⟩

theorem transfer_injective : Function.Injective transfer := by decide
theorem transfer_ne_meet : ∀ k, transfer k ≠ semOf .meet := by decide

def moveCell : Dev nD × Fin 4 ↪ GSem nD τ sig :=
  ⟨fun x => ((x.1 : Thread nD τ), transfer x.2), fun x y h =>
    Prod.ext (congrArg (fun g : GSem nD τ sig => g.1.1) h) (transfer_injective (congrArg Prod.snd h))⟩

def token : Dev nD × Role ↪ GSem nD τ sig × ℕ × Unit :=
  ⟨fun x => (cell x.1 x.2, 0, ()), fun x y h => cell_injective (congrArg Prod.fst h)⟩

/-- The meeting points, live from the launch. -/
abbrev meets : Finset (GSem nD τ sig) := Finset.univ.map meetCell
/-- The transfer semaphores, dormant until the kernel starts. -/
abbrev moves : Finset (GSem nD τ sig) := Finset.univ.map moveCell
/-- One payment to each semaphore of the exchange. -/
abbrev tokens : Finset (GSem nD τ sig × ℕ × Unit) := Finset.univ.map token

theorem meets_moves : Disjoint (meets : Finset (GSem nD τ sig)) moves := by
  rw [Finset.disjoint_left]
  intro g hg hg'
  obtain ⟨c, -, rfl⟩ := Finset.mem_map.mp hg
  obtain ⟨x, -, h⟩ := Finset.mem_map.mp hg'
  exact transfer_ne_meet x.2 (congrArg Prod.snd h)

theorem cell_live (c : Dev nD) (r : Role) : cell c r ∈ (meets ∪ moves : Finset (GSem nD τ sig)) := by
  have mv : ∀ k, ((c : Thread nD τ), transfer k) ∈ (meets ∪ moves : Finset (GSem nD τ sig)) := fun k =>
    Finset.mem_union_right _ (Finset.mem_map_of_mem moveCell (Finset.mem_univ (c, k)))
  cases r with
  | meet => exact Finset.mem_union_left _ (Finset.mem_map_of_mem meetCell (Finset.mem_univ c))
  | goK => exact mv 0
  | goV => exact mv 1
  | inK => exact mv 2
  | inV => exact mv 3

/-! ## The element at launch -/

abbrev startX : UR sig nD τ := launchOf meets moves tokens

def startAll : UU :=
  (initOf (Pipeline.cells (Pipeline.pin (pcfgs (F := F)) adm) Gen.cellOf_inj)
    (Pipeline.launchToks (Pipeline.pin (pcfgs (F := F)) adm) Gen.cellOf_inj), startX)

/-- The exchange's share of the launch element waits with device 0 until it is dealt. -/
def kept (c : Dev nD) : sProp 𝕄 := if c = 0 then BI.own (EX startX) else iprop(emp)

theorem kept_all : bigSep Finset.univ (kept (F := F)) = BI.own (EX startX) := by
  rw [bigSep_univ_at _ (0 : Dev nD), bigSep_congr (s := Finset.univ.erase (0 : Dev nD)) (Ψ := fun _ => (BI.emp : sProp 𝕄)) fun c hc => by
    unfold kept; exact if_neg (Finset.ne_of_mem_erase hc), BI.bigSep_emp_const]
  unfold kept
  rw [if_pos rfl]
  exact BI.equiv_iff.mp sep_emp

/-! ## What each device gets -/

theorem five {M : Type} [URA M] (Φ : Role → sProp M) :
    bigSep Finset.univ Φ = iprop(Φ .meet ∗ Φ .goK ∗ Φ .goV ∗ Φ .inK ∗ Φ .inV) :=
  bigSep_univ_eq_bigSepL [Role.meet, .goK, .goV, .inK, .inV] (by decide) (by decide) Φ

/-- The tokens of the payments a device makes, two at home and three at its partner's. -/
def dues (c : Dev nD) : sProp 𝕄 :=
  iprop(dutyTok EX (cell (peer c) .meet) 0 () ∗ dutyTok EX (cell c .goK) 0 () ∗ dutyTok EX (cell c .goV) 0 ()
    ∗ dutyTok EX (cell (peer c) .inK) 0 () ∗ dutyTok EX (cell (peer c) .inV) 0 ())

/-- All tokens, each handed to the device that pays with it. -/
theorem dues_all :
    bigSep tokens (fun x => (dutyTok EX x.1 x.2.1 x.2.2 : sProp 𝕄)) = bigSep Finset.univ fun c : Dev nD => dues (F := F) c := by
  have around : ∀ r, bigSep Finset.univ (fun c : Dev nD => (dutyTok EX (cell c r) 0 () : sProp 𝕄))
      = bigSep Finset.univ fun c : Dev nD => (dutyTok EX (cell (peer c) r) 0 () : sProp 𝕄) := fun r =>
    bigSep_univ_equiv swap fun c : Dev nD => (dutyTok EX (cell c r) 0 () : sProp 𝕄)
  rw [bigSep_map, bigSep_univ_prod]
  unfold dues
  rw [bigSep_sep', bigSep_sep', bigSep_sep', bigSep_sep', ← around .meet, ← around .inK, ← around .inV, ← bigSep_sep', ← bigSep_sep',
    ← bigSep_sep', ← bigSep_sep']
  exact bigSep_congr fun c _ => five fun r : Role => (dutyTok EX (cell c r) 0 () : sProp 𝕄)

/-- The ghost state that belongs to one device alone. -/
def own (c : Dev nD) : sProp 𝕄 :=
  iprop(atPos EX (cell c .meet) 0 ∅ 0
    ∗ (openTok EX (cell c .goK) ∗ openTok EX (cell c .goV) ∗ openTok EX (cell c .inK) ∗ openTok EX (cell c .inV))
    ∗ dues c)

/-- The credit for the waits that the partner pays for. -/
def credit (c : Dev nD) : sProp 𝕄 :=
  iprop(cred (tallyAt (cell c .meet) () (unit .meet)) ∗ cred (tallyAt (cell c .inK) () (unit .inK))
    ∗ cred (tallyAt (cell c .inV) () (unit .inV)))

/-- What every device may consult. -/
def common (κ : GSem nD τ sig → ℕ) : sProp 𝕄 :=
  iprop((bigSep (meets ∪ moves) fun g => cellInv EX (plan m) (κ g) g) ∗ bigSep meets fun g => reached EX g 0)

instance common_persistent (κ : GSem nD τ sig → ℕ) : BI.Persistent (common (F := F) m κ) := by unfold common; infer_instance

theorem common_laws (κ : GSem nD τ sig → ℕ) :
    (bigSep (meets ∪ moves) fun g => (cellInv EX (plan m) (κ g) g : sProp 𝕄)) ⊢ laws m κ := by
  unfold laws
  exact (bigSep_of_persistent (Finset.univ : Finset (Dev nD × Role)) _).trans (bigSep_mono fun x _ => bigSep_elim (cell_live x.1 x.2))

theorem common_met (c : Dev nD) : (bigSep meets fun g => (reached EX g 0 : sProp 𝕄)) ⊢ reached EX (cell c .meet) 0 :=
  bigSep_elim (Finset.mem_map_of_mem meetCell (Finset.mem_univ c))

/-- A device carries its own ghost state, its credit and what is common. -/
theorem carry (κ : GSem nD τ sig → ℕ) (c : Dev nD) : iprop(common m κ ∗ own c ∗ credit c) ⊢ carried m c := by
  unfold common own credit dues carried rights
  iintro ⟨⟨#HL, #HM⟩, ⟨HA, ⟨O1, O2, O3, O4⟩, ⟨D1, D2, D3, D4, D5⟩⟩, C1, C2, C3⟩
  iexists κ
  isplitr; · iapply (common_laws m κ); iexact HL
  isplitl [D1 D2 D3 D4 D5 C1 C2 C3]
  · isplitl [D1]; · iexact D1
    isplitl [D4]; · iexact D4
    isplitl [D5]; · iexact D5
    isplitl [D2]; · iexact D2
    isplitl [D3]; · iexact D3
    isplitl [C1]; · iexact C1
    isplitl [C2] <;> iassumption
  isplitl [HA]; · iexact HA
  isplitr; · iapply (common_met (F := F) (peer c)); iexact HM
  isplitl [O1]; · iexact O1
  isplitl [O2]; · iexact O2
  isplitl [O3] <;> iassumption

/-! ## The credit at launch -/

theorem semOf_ne {r r' : Role} (h : r ≠ r') : semOf r ≠ semOf r' := fun e => h (semOf_injective e)

/-- A device owes one payment to a cell exactly when the cell is its partner's and is the meeting point or an arrival. -/
theorem owes_at (d c : Dev nD) (r : Role) (hr : r = .meet ∨ r = .inK ∨ r = .inV) :
    owesAll d (cell c r) () = if d = peer c then unit r else 0 := by
  have one : ∀ r', (tallyAt (cell (peer d) r') () (unit r') : CellTallies nD τ sig Unit) (cell c r) ()
      = if d = peer c ∧ r = r' then unit r' else 0 := fun r' => by
    rw [tallyAt_apply]
    by_cases h : d = peer c ∧ r = r'
    · obtain ⟨rfl, rfl⟩ := h
      rw [peer_peer, if_pos ⟨rfl, rfl⟩, if_pos ⟨rfl, rfl⟩]
    · rw [if_neg h, if_neg]
      rintro ⟨e, -⟩
      have e' := cell_injective (a₁ := (c, r)) (a₂ := (peer d, r')) e
      have e₁ : c = peer d := congrArg Prod.fst e'
      exact h ⟨by rw [e₁, peer_peer], congrArg Prod.snd e'⟩
  show ((tallyAt (cell (peer d) .inV) () (unit .inV) : CellTallies nD τ sig Unit) (cell c r) ()
      + (tallyAt (cell (peer d) .inK) () (unit .inK) : CellTallies nD τ sig Unit) (cell c r) ())
      + (tallyAt (cell (peer d) .meet) () (unit .meet) : CellTallies nD τ sig Unit) (cell c r) () = _
  rw [one, one, one]
  by_cases h : d = peer c
  · rcases hr with rfl | rfl | rfl <;> simp [h]
  · simp [h]

/-- The launch credits a device's meeting point and arrivals with exactly what its partner owes them. -/
theorem credit_at (c : Dev nD) (r : Role) (hr : r = .meet ∨ r = .inK ∨ r = .inV) :
    tallyOn (cell c r) (launchCredit (Pipeline.owing owesAll) 0 (cell c r)) = (tallyAt (cell c r) () (unit r) : CellTallies nD τ sig Unit) := by
  unfold tallyAt
  refine congrArg _ (Finsupp.ext fun u => ?_)
  cases u
  rw [Pipeline.launchCredit_owing, Finsupp.single_eq_same, Finset.sum_congr rfl fun d _ => owes_at d c r hr,
    Finset.sum_ite_eq' Finset.univ (peer c) fun _ => unit r, if_pos (Finset.mem_univ _)]

theorem credited (c : Dev nD) : (Pipeline.launchCred owesAll c : sProp 𝕄) ⊢ credit c := by
  unfold Pipeline.launchCred credit
  rw [← credit_at c .meet (.inl rfl), ← credit_at c .inK (.inr (.inl rfl)), ← credit_at c .inV (.inr (.inr rfl)),
    bigSep_univ_at _ (semOf .meet)]
  refine sep_mono_right ?_
  have hK : semOf .inK ∈ (Finset.univ : Finset (SemLoc sig)).erase (semOf .meet) :=
    Finset.mem_erase.mpr ⟨semOf_ne (by decide), Finset.mem_univ _⟩
  have hV : semOf .inV ∈ ((Finset.univ : Finset (SemLoc sig)).erase (semOf .meet)).erase (semOf .inK) :=
    Finset.mem_erase.mpr ⟨semOf_ne (by decide), Finset.mem_erase.mpr ⟨semOf_ne (by decide), Finset.mem_univ _⟩⟩
  rw [bigSep_erase hK]
  exact sep_mono_right (bigSep_elim hV)

/-! ## Dealing -/

/-- What a device holds at the start of its program. -/
abbrev began (c : Dev nD) : sProp 𝕄 := iprop(StableHlo.held (c.tc : Thread nD τ) pool (at0 m c) ∗ before m c)

/-- What a device holds at the launch beside the ghost state of the exchange. -/
def plain (c : Dev nD) : sProp 𝕄 :=
  iprop(StableHlo.held (c.tc : Thread nD τ) pool (at0 m c) ∗ credit c ∗ owes (c : Thread nD τ) (owesAll c) ∅ ∗ dice c)

theorem begin_with (κ : GSem nD τ sig → ℕ) (c : Dev nD) : iprop(common m κ ∗ (own c ∗ plain m c)) ⊢ began m c := by
  unfold plain began before
  iintro ⟨#HC, HW, HH, HR, HO, HD⟩
  isplitl [HH]; · iexact HH
  isplitl [HW HR]
  · iapply (carry m κ c)
    isplitr; · iexact HC
    isplitl [HW] <;> iassumption
  isplitl [HD]; · iexact HD
  iexists ∅; iexact HO

theorem only_meet : (Finset.univ.filter fun s : SemLoc sig => ¬s.isScoped .tc) = {semOf .meet} := by decide

theorem free_semaphores (c : Dev nD) : (unscopedSems0 c : sProp 𝕄) = semVal (cell c .meet) 0 := by
  unfold unscopedSems0
  rw [only_meet, BI.bigSep_singleton]

/-- What the launch hands to a device. -/
abbrev handed (c : Dev nD) : sProp 𝕄 :=
  iprop(unscopedBufs c (fun b => m ((c.tc : Thread nD τ).loc b)) ∗ unscopedSems0 c
    ∗ owes (c.tc : Thread nD τ) (owesAll c) ∅ ∗ Pipeline.launchCred owesAll c ∗ prngReg c (ρ c) ∗ kept c)

theorem handed_sorted (c : Dev nD) : handed m ρ c ⊢ iprop(plain m c ∗ (semVal (cell c .meet) 0 ∗ kept c)) := by
  unfold handed
  rw [show (unscopedBufs c (fun b => m ((c.tc : Thread nD τ).loc b)) : sProp 𝕄) = StableHlo.held (c.tc : Thread nD τ) pool (at0 m c) from
    Pipeline.unscopedBufs_held c (at0 m c), free_semaphores]
  unfold plain dice
  iintro ⟨HH, HM, HO, HC, HD, HK⟩
  isplitr [HM HK]
  · isplitl [HH]; · iexact HH
    isplitl [HC]; · iapply (credited (F := F) c); iexact HC
    isplitl [HO]; · iexact HO
    iexists (ρ c); iexact HD
  isplitl [HM] <;> iassumption

/-- All that the launch hands out, dealt so that every device can begin. -/
theorem deal :
    iprop((bigSep Finset.univ fun c : Dev nD => handed m ρ c) ∗ levAts ranked rank) ⊢ (|={Set.univ}=> bigSep Finset.univ (began m) : sProp 𝕄) := by
  have sems : bigSep Finset.univ (fun c : Dev nD => (semVal (cell c .meet) 0 : sProp 𝕄)) ⊢ bigSep meets (fun g => (semVal g 0 : sProp 𝕄)) :=
    Entails.of_eq (bigSep_map (s := Finset.univ) meetCell (Φ := fun g : GSem nD τ sig => (semVal g 0 : sProp 𝕄))).symm
  have places : bigSep meets (fun g => (atPos EX g 0 ∅ 0 : sProp 𝕄))
      ⊢ bigSep Finset.univ (fun c : Dev nD => (atPos EX (cell c .meet) 0 ∅ 0 : sProp 𝕄)) :=
    Entails.of_eq (bigSep_map (s := Finset.univ) meetCell (Φ := fun g : GSem nD τ sig => (atPos EX g 0 ∅ 0 : sProp 𝕄)))
  have keys : bigSep moves (fun g => (openTok EX g : sProp 𝕄))
      ⊢ bigSep Finset.univ (fun c : Dev nD =>
        (iprop(openTok EX (cell c .goK) ∗ openTok EX (cell c .goV) ∗ openTok EX (cell c .inK) ∗ openTok EX (cell c .inV)) : sProp 𝕄)) :=
    Entails.of_eq (by
      rw [bigSep_map, bigSep_univ_prod]
      exact bigSep_congr fun c _ => four fun k : Fin 4 => (openTok EX ((c : Thread nD τ), transfer k) : sProp 𝕄))
  have sorted : bigSep Finset.univ (fun c : Dev nD => handed m ρ c)
      ⊢ (iprop(bigSep Finset.univ (fun c : Dev nD => plain m c)
        ∗ bigSep Finset.univ (fun c : Dev nD => semVal (cell c .meet) 0) ∗ bigSep Finset.univ (kept (F := F))) : sProp 𝕄) := by
    rw [← bigSep_sep', ← bigSep_sep']
    exact bigSep_mono fun c _ => handed_sorted m ρ c
  iintro ⟨H, -⟩
  ihave H := sorted $$ H
  icases H with ⟨HP, HS, HK⟩
  ihave HK := (Entails.of_eq (kept_all (F := F))) $$ HK
  imod (Rounds.fund_launch EX (plan m) meets_moves (fun g _ h => h) tokens) $$ [HS HK] with ⟨%κ, -, #HI, #HM, HA, HO, HT⟩
  · isplitl [HS]
    · iapply sems $$ HS
    · iexact HK
  imodintro
  iapply (bigSep_with_persistent (R := common m κ) (Φ := fun c => iprop(own c ∗ plain m c)) fun c _ => begin_with m κ c)
  isplitr
  · unfold common
    isplitr; · iexact HI
    iexact HM
  unfold own
  rw [bigSep_sep', bigSep_sep', bigSep_sep']
  isplitr [HP]
  · isplitl [HA]; · iapply places $$ HA
    isplitl [HO]; · iapply keys $$ HO
    iapply (Entails.of_eq (dues_all (F := F))) $$ HT
  · iexact HP

/-! ## The run -/

/-- What a device holds at the end of its program, apart from its debts. -/
abbrev ended (c : Dev nD) : sProp 𝕄 := iprop(StableHlo.held (c.tc : Thread nD τ) pool (at3 m c) ∗ semVal (cell c .meet) 0)

/-- The final memory agrees with what a device holds at the end. -/
theorem final (c : Dev nD) (s : Phys nD τ sig (Elt F)) :
    iprop(ended m c ∗ SI s) ⊢ (|={Set.univ}=> iprop(⌜(∀ b ∈ pool, s.mem.mem (c, b) = at3 m c b) ∧ s.mem.sem (cell c .meet) = 0⌝ ∗ SI s) : sProp 𝕄) := by
  have read := pointsTo_read_all (Ix := Unit) (Name := ℕ) (U := UU) (Lvl := ℕ) (nD := nD) pool (fun b => ((c, b) : Loc nD τ sig)) (fun b => at3 m c b) s
  unfold ended StableHlo.held
  iintro ⟨⟨HH, HM⟩, HS⟩
  icombine HS HM gives %hM
  ihave H := read $$ [HH HS]
  · isplitl [HH]; · iexact HH
    iexact HS
  icases H with ⟨%hH, HS⟩
  imodintro
  isplitr
  · ipureintro
    exact ⟨hH, by simpa using hM⟩
  iexact HS

theorem free_is_meet : ∀ s : SemLoc sig, s.isScoped .tc = false → s = semOf .meet := by decide

set_option backward.isDefEq.respectTransparency.types false in
/-- Every execution ends; at the end each device's buffers hold `at3` and every semaphore is at zero. -/
theorem run_all : θ_run (defs (F := F)) (onTc (τ := τ) (main (F := F))) ⟨m, fun _ => 0, ρ⟩
    (fun r => (∀ c : Dev nD, ∀ b ∈ pool, r.2.mem (c, b) = at3 m c b) ∧ r.2.sem = fun _ => 0) :=
  Pipeline.θ_run_regions_kit_sems (pcfgs (F := F)) adm (pdats m) () Gen.cellOf_inj EP defs₀ 𝒱₀ ranked rank m ρ main (pieces m)
    (fun c Q => by rw [main_pieces m c])
    (by simp only [pieces, Pipeline.Seg.pipes_host, Pipeline.Seg.pipes_region, Pipeline.Seg.pipes_nil]; decide)
    (O₀ := owesAll) (hL := fun g hg => if_neg hg) (G := kept) (u₀ := startAll)
    (hu₀ := by
      unfold startAll
      iintro H
      ihave H := (ownU_pair _ _) $$ H
      icases H with ⟨HP, HX⟩
      imodintro
      isplitl [HP]; · iexact HP
      rw [kept_all]; iexact HX)
    (T₀ := began m) (Tₙ := ended m)
    (hch := ⟨fun c => .rfl, fun c => join_in m c, fun c => join_out m c, fun c => by
      show iprop(StableHlo.held (c.tc : Thread nD τ) pool (at3 m c) ∗ behind c)
        ⊢ iprop(ended m c ∗ ∃ W, owes (c : Thread nD τ) (0 : CellTallies nD τ sig Unit) W)
      unfold behind
      iintro ⟨HH, HM, HO⟩
      isplitr [HO]
      · isplitl [HH] <;> iassumption
      · iexact HO⟩)
    (hinit := deal m ρ)
    (QY := fun c s => (∀ b ∈ pool, s.mem (c, b) = at3 m c b) ∧ s.sem (cell c .meet) = 0)
    (hfin := final m)
    (hQ := fun s h hs => ⟨fun c => (h c).1, sem_eq_zero hs fun c sm hsm => by
      obtain rfl := free_is_meet sm hsm
      exact (h c).2⟩)

end Cert.KernelIdeal.Exchange

end
-- ==== Proof.Frames.lean ====
/-
The frames: every program ends with its arguments unchanged and every semaphore at zero.
-/
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Quiescent

@[expose] public section

set_option maxRecDepth 16384

noncomputable section

namespace Cert.KernelIdeal.Exchange

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- A buffer that neither the kernel nor a later host operation writes ends as the kernel found it. -/
theorem at3_of_idle (c : Dev nD) (b : Ref sig .tc) (h8 : b ≠ main_v8) (h9 : b ≠ main_v9)
    (hb : ∀ w, Pipeline.arrRef spec0 w ≠ b) : at3 m c (Proc.devRef .tc b) = V m c b := by
  unfold at3
  rw [StableHlo.after_of_forall_not_mem (b := Proc.devRef .tc b) _ _ (List.forall_iff_forall_mem.mp (by
    simp only [hostOps1, List.Forall, StableHlo.unary_writes, StableHlo.reshape_writes, Finset.mem_singleton]
    exact ⟨StableHlo.devRef_ne_of_ne h8, StableHlo.devRef_ne_of_ne h9⟩))]
  exact Pipeline.afterRegion_of_not_arr (dat0 m c) (V0 m c) fun w => (hb w).symm

/-- The first argument ends as it was at the start. -/
theorem at3_arg0 (c : Dev nD) : at3 m c (Proc.devRef .tc main_arg0) = m ((c.tc : Thread nD τ).loc main_arg0) :=
  (at3_of_idle m c main_arg0 (by decide) (by decide) (by decide)).trans (V_main_arg0 m c)
/-- The second argument ends as it was at the start. -/
theorem at3_arg1 (c : Dev nD) : at3 m c (Proc.devRef .tc main_arg1) = m ((c.tc : Thread nD τ).loc main_arg1) :=
  (at3_of_idle m c main_arg1 (by decide) (by decide) (by decide)).trans (V_main_arg1 m c)
/-- The third argument ends as it was at the start. -/
theorem at3_arg2 (c : Dev nD) : at3 m c (Proc.devRef .tc main_arg2) = m ((c.tc : Thread nD τ).loc main_arg2) :=
  (at3_of_idle m c main_arg2 (by decide) (by decide) (by decide)).trans (V_main_arg2 m c)

/-- Every execution ends with the result at `at3`, the arguments unchanged and every semaphore at zero. -/
theorem run_results (ρ : Dev nD → PrngReg) :
    θ_run (defs (F := F)) (onTc (τ := τ) (main (F := F))) ⟨m, fun _ => 0, ρ⟩ (fun r =>
      (∀ c : Dev nD, r.2.mem ((c.tc : Thread nD τ).loc main_v9) = at3 m c (Proc.devRef .tc main_v9)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0) :=
  (θ_run defs _ _).mono (fun _ h => ⟨fun c => ⟨h.1 c (Proc.devRef .tc main_v9) (by decide),
      (h.1 c (Proc.devRef .tc main_arg0) (by decide)).trans (at3_arg0 m c),
      (h.1 c (Proc.devRef .tc main_arg1) (by decide)).trans (at3_arg1 m c),
      (h.1 c (Proc.devRef .tc main_arg2) (by decide)).trans (at3_arg2 m c)⟩, h.2⟩) (run_all m ρ)

/-- The kernel over exact numbers leaves its arguments unchanged and ends with every semaphore at zero. -/
theorem frame_ideal : Cert.quiescent_KernelIdeal := fun m ρ _ =>
  (θ_run Cert.KernelIdeal.defs _ _).mono (fun _ h => ⟨fun c => (h.1 c).2, h.2⟩) (run_results (F := Ideal) m ρ)

/-- Over machine words the two programs' kernel bodies are the same text. -/
theorem bodies_same : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | 0, (t, s) => rfl

/-- So are the tables of everything the two programs can call. -/
theorem tables_same : Cert.Kernel.defs (F := Bits) = Cert.KernelIdeal.defs (F := Bits) := by
  unfold Cert.Kernel.defs Cert.KernelIdeal.defs
  rw [bodies_same]; rfl

/-- The kernel over machine words leaves its arguments unchanged and ends with every semaphore at zero. -/
theorem frame_kernel : Cert.quiescent_Kernel := fun m ρ _ => by
  rw [tables_same]
  exact (θ_run Cert.KernelIdeal.defs _ _).mono (fun _ h => ⟨fun c => (h.1 c).2, h.2⟩) (run_results (F := Bits) m ρ)

/-- The reference leaves its arguments unchanged; it has no semaphore that could end away from zero. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.KernelIdeal.Exchange

end
-- ==== Proof.Halves.lean ====
/-
One row of attention over extended reals, and how it falls into two halves of its keys.
-/
module

public import Idealize.ShloMosaic.PureOps.Ideal.Laws

@[expose] public section

noncomputable section

namespace Cert.Attention

open Idealize.ShloMosaic
open scoped BigOperators

variable {ι κ : Type} [Fintype ι] [Fintype κ]

/-- Where every maximum starts: the word of minus infinity. -/
def floor : EReal := Ideal.ofBits .f32 0xFF800000#32

/-- The factor of every score: the word of one eighth. -/
def eighth : EReal := Ideal.ofBits .f32 0x3E000000#32

/-- The greatest of a row of scores. -/
def crest (s : ι → EReal) : EReal := Finset.univ.fold max floor s

/-- The exponential of every score, taken below a given height. -/
def below (h : EReal) (s : ι → EReal) (k : ι) : EReal := Ideal.exp (s k - h)

/-- A row of attention: the values, weighed by the exponentials of the scores below their crest. -/
def soft (s v : ι → EReal) : EReal :=
  ∑ k, Ideal.div (below (crest s) s k) (∑ j, below (crest s) s j) * v k

/-- A row of attention whose keys come in two families, with one crest and one total for both. -/
def soft₂ (s s' v v' : ι → EReal) : EReal :=
  ∑ k, Ideal.div (below (max (crest s) (crest s')) s k)
      (∑ j, below (max (crest s) (crest s')) s j + ∑ j, below (max (crest s) (crest s')) s' j) * v k
  + ∑ k, Ideal.div (below (max (crest s) (crest s')) s' k)
      (∑ j, below (max (crest s) (crest s')) s j + ∑ j, below (max (crest s) (crest s')) s' j) * v' k

/-- The crest is the least height above the floor and above every score. -/
theorem crest_le (s : ι → EReal) (h : EReal) : crest s ≤ h ↔ floor ≤ h ∧ ∀ k, s k ≤ h := by
  unfold crest
  rw [Finset.fold_max_le]
  simp

/-- The crest of a row is the greater of its halves' crests. -/
theorem crest_halves (e : ι ⊕ ι ≃ κ) (s : κ → EReal) :
    crest s = max (crest fun k => s (e (.inl k))) (crest fun k => s (e (.inr k))) := by
  refine eq_of_forall_ge_iff fun h => ?_
  rw [max_le_iff, crest_le, crest_le, crest_le]
  constructor
  · rintro ⟨hf, hs⟩
    exact ⟨⟨hf, fun k => hs _⟩, hf, fun k => hs _⟩
  · rintro ⟨⟨hf, hl⟩, -, hr⟩
    refine ⟨hf, fun k => ?_⟩
    obtain ⟨x, rfl⟩ := e.surjective k
    cases x with
    | inl k => exact hl k
    | inr k => exact hr k

/-- A sum over a row is the sum of its halves' sums. -/
theorem sum_halves (e : ι ⊕ ι ≃ κ) (f : κ → EReal) :
    ∑ k, f k = ∑ k, f (e (.inl k)) + ∑ k, f (e (.inr k)) := by
  rw [← e.sum_comp, Fintype.sum_sum_type]

/-- A row of attention is the row over its two halves. -/
theorem soft_halves (e : ι ⊕ ι ≃ κ) (s v : κ → EReal) :
    soft s v = soft₂ (fun k => s (e (.inl k))) (fun k => s (e (.inr k)))
      (fun k => v (e (.inl k))) (fun k => v (e (.inr k))) := by
  unfold soft soft₂
  rw [← crest_halves e s, sum_halves e, sum_halves e]
  rfl

end Cert.Attention

end
-- ==== Proof.Row.lean ====
/-
The kernel's arithmetic at one grid point, read element by element over extended reals.
-/
module

public import proofs.«01_k».proof.Proof.Halves
public import proofs.«01_k».proof.Proof.Compute
public import Idealize.ShloMosaic.Lib.ValueIdx
public import Idealize.ShloMosaic.Lib.ValueLayout
public import Idealize.ShloMosaic.Lib.ValueLayoutCasts
public import Idealize.ShloMosaic.Lib.MatmulPlain

@[expose] public section

set_option maxRecDepth 16384

noncomputable section

namespace Cert.KernelIdeal.Exchange

open Idealize.ShloMosaic Idealize.ShloMosaic.ValueIdx Cert.Attention
open Cert.KernelIdeal Cert.KernelIdeal.Gen
open scoped BigOperators

/-- A row's maximum, taken by the kernel, is its crest. -/
theorem row_max (s : FVec Ideal S256x256 .f32) (r : Fin 256) :
    multiReduction .maximumf [1] S256 s 0xFF800000#32 reduces_S256x256_S256 (.inl rfl) (by decide) (ix1 r)
      = crest fun k => s (ix2 r k) := by
  rw [Ideal.multiReduction_maximumf_single]
  unfold crest Attention.floor
  refine congrArg (Finset.univ.fold max _) (funext fun k => congrArg s (funext fun a => Fin.ext ?_))
  match a with
  | ⟨0, _⟩ => rfl
  | ⟨1, _⟩ => rfl

/-- A row's sum, taken by the kernel. -/
theorem row_sum (s : FVec Ideal S256x256 .f32) (r : Fin 256) :
    multiReduction .add [1] S256 s 0x00000000#32 reduces_S256x256_S256 (.inl rfl) (by decide) (ix1 r)
      = ∑ k : Fin 256, s (ix2 r k) := by
  rw [Ideal.multiReduction_add_single]
  refine Finset.sum_congr rfl fun k _ => congrArg s (funext fun a => Fin.ext ?_)
  match a with
  | ⟨0, _⟩ => rfl
  | ⟨1, _⟩ => rfl

/-- A column repeated along the rows. -/
theorem spread (x : FVec Ideal S256x1 .f32) (r k : Fin 256) :
    broadcastTo S256x256 x broadcasts_S256x1_S256x256 (ix2 r k) = x (ix2 r (0 : Fin 1)) :=
  broadcastTo_apply x _ _ _ fun a => by
    match a with
    | ⟨0, _⟩ => rfl
    | ⟨1, _⟩ => rfl

/-- The scores of this device's keys. -/
theorem score_own (q kk : S1x256x64.Idx → Elt Ideal .bf16) (r k : Fin 256) :
    k0_pay5 q kk (ix2 r k) = (∑ d : Fin 64, q (ix3 0 r d) * kk (ix3 0 k d)) * eighth := by
  unfold k0_pay5
  simp only [mulf_apply, broadcast_apply, matmul]
  rw [show dot_S256x64_S256x64_S256x256_1_1_0_0_n_n = DotDims.transposedRhs 256 64 256 from rfl, Ideal.matmul_transposedRhs_apply, constant_apply, Ideal.ofBits_zero_f32, zero_add]
  simp only [k0_pay2, shapeCast_1ab_ab_apply]
  rfl

/-- The scores of the partner's keys. -/
theorem score_far (q kk : S1x256x64.Idx → Elt Ideal .bf16) (r k : Fin 256) :
    k0_pay6 q kk (ix2 r k) = (∑ d : Fin 64, q (ix3 0 r d) * kk (ix3 0 k d)) * eighth := score_own q kk r k

/-- What the kernel makes of two blocks of scores and two of values is a row over two families of keys. -/
theorem blocks_row (v v' : FVec Ideal S256x64 .bf16) (s s' : FVec Ideal S256x256 .f32) (u : Fin 1) (r : Fin 256) (d : Fin 64) :
    k0_pay1 v v' s s' (ix3 u r d)
      = soft₂ (fun k : Fin 256 => s (ix2 r k)) (fun k => s' (ix2 r k)) (fun k => v (ix2 k d)) (fun k => v' (ix2 k d)) := by
  unfold k0_pay1
  rw [shapeCast_ab_1ab_apply, addf_apply]
  simp only [matmul]
  rw [show dot_S256x256_S256x64_S256x64_1_0_0_1_n_n = DotDims.plain 256 256 64 from rfl]
  rw [Ideal.matmul_plain_apply, Ideal.matmul_plain_apply, constant_apply, Ideal.ofBits_zero_f32, zero_add, zero_add]
  simp only [truncf_apply, divf_apply, spread, addf_apply, shapeCast_a_a1_apply]
  unfold soft₂ below
  have e : ∀ (x : FVec Ideal S256x256 .f32) (k : Fin 256),
      exp (subf x (broadcastTo S256x256 (maximumf
        (shapeCast S256x1 (multiReduction .maximumf [1] S256 s 0xFF800000#32 reduces_S256x256_S256 (.inl rfl) (by decide)) shapeCasts_S256_S256x1)
        (shapeCast S256x1 (multiReduction .maximumf [1] S256 s' 0xFF800000#32 reduces_S256x256_S256 (.inl rfl) (by decide)) shapeCasts_S256_S256x1))
        broadcasts_S256x1_S256x256)) (ix2 r k)
      = Ideal.exp (x (ix2 r k) - max (crest fun k => s (ix2 r k)) (crest fun k => s' (ix2 r k))) := by
    intro x k
    show Ideal.exp (x (ix2 r k) - broadcastTo S256x256 _ _ (ix2 r k)) = _
    rw [spread, maximumf_apply, shapeCast_a_a1_apply, shapeCast_a_a1_apply, row_max, row_max]
  rw [row_sum, row_sum]
  simp only [e]

/-- An element of the attention block of one head. -/
theorem attn_apply (i : grid0.Coords) (q : S1x256x64.Idx → Elt Ideal .bf16) (k v k' v' : S64x256x64.Idx → Elt Ideal .bf16)
    (u : Fin 1) (r : Fin 256) (d : Fin 64) :
    attn i q k v k' v' (ix3 u r d)
      = soft₂ (fun j : Fin 256 => (∑ x : Fin 64, q (ix3 0 r x) * pick i k (ix3 0 j x)) * eighth)
          (fun j => (∑ x : Fin 64, q (ix3 0 r x) * pick i k' (ix3 0 j x)) * eighth)
          (fun j => pick i v (ix3 0 j d)) (fun j => pick i v' (ix3 0 j d)) := by
  unfold attn
  rw [blocks_row]
  simp only [score_own, score_far, k0_pay3, k0_pay4, shapeCast_1ab_ab_apply]

end Cert.KernelIdeal.Exchange

end
-- ==== Proof.RefRow.lean ====
/-
The reference's arithmetic, read element by element over extended reals.
-/
module

public import proofs.«01_k».proof.Proof.Halves
public import proofs.«01_k».proof.Proof.Gen.ReferenceIdeal.Run
public import Idealize.ShloMosaic.Lib.ValueIdx
public import Idealize.ShloMosaic.Lib.IdealHost
public import Idealize.ShloMosaic.Lib.Pipeline.Value

@[expose] public section

set_option maxRecDepth 16384

noncomputable section

namespace Cert.ReferenceIdeal.Whole

open Idealize.ShloMosaic Idealize.ShloMosaic.ValueIdx Cert.Attention
open Cert.ReferenceIdeal Cert.ReferenceIdeal.Gen
open scoped BigOperators

/-- The product of the queries with the keys, over the head's width. -/
theorem product_qk (x y : FVec Ideal S4x512x16x64 .f32) (b : Fin 4) (h : Fin 16) (q k : Fin 512) :
    Host.dotGeneral dot_S4x512x16x64_S4x512x16x64_S4x16x512x512_3_3_1_1_02_02 none x y (ix4 b h q k)
      = ∑ d : Fin 64, x (ix4 b q h d) * y (ix4 b k h d) := by
  simp only [Host.dotGeneral]
  rw [Ideal.dotGeneral_apply,
    ← Equiv.sum_comp (contrEquiv1 dot_S4x512x16x64_S4x512x16x64_S4x16x512x512_3_3_1_1_02_02 64 rfl rfl).symm]
  refine Finset.sum_congr rfl fun d _ => ?_
  have hd := contrEquiv1_symm_val dot_S4x512x16x64_S4x512x16x64_S4x16x512x512_3_3_1_1_02_02 64 rfl rfl d
  refine congrArg₂ (· * ·) (congrArg x (funext fun a => Fin.ext ?_)) (congrArg y (funext fun a => Fin.ext ?_))
  · match a with
    | ⟨0, _⟩ => rfl
    | ⟨1, _⟩ => rfl
    | ⟨2, _⟩ => rfl
    | ⟨3, _⟩ => exact hd
  · match a with
    | ⟨0, _⟩ => rfl
    | ⟨1, _⟩ => rfl
    | ⟨2, _⟩ => rfl
    | ⟨3, _⟩ => exact hd

/-- The product of the values with the weights, over the keys. -/
theorem product_vp (x : FVec Ideal S4x512x16x64 .f32) (y : FVec Ideal S4x16x512x512 .f32) (b : Fin 4) (h : Fin 16)
    (d : Fin 64) (q : Fin 512) :
    Host.dotGeneral dot_S4x512x16x64_S4x16x512x512_S4x16x64x512_1_3_3_2_02_01 none x y (ix4 b h d q)
      = ∑ k : Fin 512, x (ix4 b k h d) * y (ix4 b h q k) := by
  simp only [Host.dotGeneral]
  rw [Ideal.dotGeneral_apply,
    ← Equiv.sum_comp (contrEquiv1 dot_S4x512x16x64_S4x16x512x512_S4x16x64x512_1_3_3_2_02_01 512 rfl rfl).symm]
  refine Finset.sum_congr rfl fun k _ => ?_
  have hk := contrEquiv1_symm_val dot_S4x512x16x64_S4x16x512x512_S4x16x64x512_1_3_3_2_02_01 512 rfl rfl k
  refine congrArg₂ (· * ·) (congrArg x (funext fun a => Fin.ext ?_)) (congrArg y (funext fun a => Fin.ext ?_))
  · match a with
    | ⟨0, _⟩ => rfl
    | ⟨1, _⟩ => exact hk
    | ⟨2, _⟩ => rfl
    | ⟨3, _⟩ => rfl
  · match a with
    | ⟨0, _⟩ => rfl
    | ⟨1, _⟩ => rfl
    | ⟨2, _⟩ => rfl
    | ⟨3, _⟩ => exact hk

/-- The last axis alone is reduced. -/
theorem drops_last : S4x16x512x512.Reduces [3] S4x16x512 := by decide

/-- The greatest element along the last axis. -/
theorem last_max (s : FVec Ideal S4x16x512x512 .f32) (b : Fin 4) (h : Fin 16) (q : Fin 512) :
    Host.reduce FloatOps.maximumf s (constant S_ .f32 0xFF800000#32) reducesTo_S4x16x512x512_S4x16x512_d3 h_S_ (ix3 b h q)
      = crest fun k : Fin 512 => s (ix4 b h q k) := by
  refine (Host.reduce_eq_fold_single (max : EReal → EReal → EReal) s _ _ drops_last _ _).trans ?_
  unfold crest
  refine congrArg (Finset.univ.fold max _) (funext fun k => congrArg s (funext fun a => Fin.ext ?_))
  match a with
  | ⟨0, _⟩ => rfl
  | ⟨1, _⟩ => rfl
  | ⟨2, _⟩ => rfl
  | ⟨3, _⟩ => rfl

/-- The sum along the last axis. -/
theorem last_sum (s : FVec Ideal S4x16x512x512 .f32) (b : Fin 4) (h : Fin 16) (q : Fin 512) :
    Host.reduceAdd s (constant S_ .f32 0x00000000#32) reducesTo_S4x16x512x512_S4x16x512_d3 h_S_ (ix3 b h q)
      = ∑ k : Fin 512, s (ix4 b h q k) := by
  rw [hostReduceAdd_apply, Ideal.hostReduceAdd_single _ drops_last, constant_apply, Ideal.ofBits_zero_f32, zero_add]
  refine Finset.sum_congr rfl fun k _ => congrArg s (funext fun a => Fin.ext ?_)
  match a with
  | ⟨0, _⟩ => rfl
  | ⟨1, _⟩ => rfl
  | ⟨2, _⟩ => rfl
  | ⟨3, _⟩ => rfl

/-- A number per query, repeated along the keys. -/
theorem spread_last (x : FVec Ideal S4x16x512 .f32) (b : Fin 4) (h : Fin 16) (q k : Fin 512) :
    broadcastInDim S4x16x512x512 ![0, 1, 2, 3] bcast_S4x16x512x1_S4x16x512x512_0_1_2_3
      (broadcastInDim S4x16x512x1 ![0, 1, 2] bcast_S4x16x512_S4x16x512x1_0_1_2 x) (ix4 b h q k) = x (ix3 b h q) := by
  rw [broadcastInDim_apply _ _ _ _ (ix4 b h q (0 : Fin 1)), broadcastInDim_apply _ _ _ _ (ix3 b h q)]
  · intro a
    match a with
    | ⟨0, _⟩ => rfl
    | ⟨1, _⟩ => rfl
    | ⟨2, _⟩ => rfl
  · intro a
    match a with
    | ⟨0, _⟩ => rfl
    | ⟨1, _⟩ => rfl
    | ⟨2, _⟩ => rfl
    | ⟨3, _⟩ => rfl

/-- The scores of the whole problem: queries by keys, one eighth of each product. -/
def scores (Q K : FVec Ideal S4x512x16x64 .bf16) : FVec Ideal S4x16x512x512 .f32 :=
  mulf (Host.dotGeneral dot_S4x512x16x64_S4x512x16x64_S4x16x512x512_3_3_1_1_02_02 none
      (extf .f32 Q bitsLt_bf16_f32) (extf .f32 K bitsLt_bf16_f32))
    (broadcastInDim S4x16x512x512 ![] bcast_S_S4x16x512x512 (constant S_ .f32 0x3E000000#32))

/-- The exponentials of the scores below each query's crest. -/
def powers (Q K : FVec Ideal S4x512x16x64 .bf16) : FVec Ideal S4x16x512x512 .f32 :=
  Host.exp (subf (scores Q K)
    (broadcastInDim S4x16x512x512 ![0, 1, 2, 3] bcast_S4x16x512x1_S4x16x512x512_0_1_2_3
      (broadcastInDim S4x16x512x1 ![0, 1, 2] bcast_S4x16x512_S4x16x512x1_0_1_2
        (Host.reduce FloatOps.maximumf (scores Q K) (constant S_ .f32 0xFF800000#32)
          reducesTo_S4x16x512x512_S4x16x512_d3 h_S_))))

/-- The whole problem's result, as the reference computes it from its three arguments. -/
def result (Q K V : FVec Ideal S4x512x16x64 .bf16) : FVec Ideal S4x512x16x64 .f32 :=
  transpose S4x512x16x64 [0, 3, 1, 2]
    (Host.dotGeneral dot_S4x512x16x64_S4x16x512x512_S4x16x64x512_1_3_3_2_02_01 none (extf .f32 V bitsLt_bf16_f32)
      (Host.divf (powers Q K)
        (broadcastInDim S4x16x512x512 ![0, 1, 2, 3] bcast_S4x16x512x1_S4x16x512x512_0_1_2_3
          (broadcastInDim S4x16x512x1 ![0, 1, 2] bcast_S4x16x512_S4x16x512x1_0_1_2
            (Host.reduceAdd (powers Q K) (constant S_ .f32 0x00000000#32) reducesTo_S4x16x512x512_S4x16x512_d3 h_S_)))))
    transposes_S4x16x64x512_S4x512x16x64_0_3_1_2

/-- A score. -/
theorem scores_apply (Q K : FVec Ideal S4x512x16x64 .bf16) (b : Fin 4) (h : Fin 16) (q k : Fin 512) :
    scores Q K (ix4 b h q k) = (∑ d : Fin 64, Q (ix4 b q h d) * K (ix4 b k h d)) * eighth := by
  unfold scores
  rw [mulf_apply, product_qk, broadcastInDim_scalar_apply]
  rfl

/-- An exponential. -/
theorem powers_apply (Q K : FVec Ideal S4x512x16x64 .bf16) (b : Fin 4) (h : Fin 16) (q k : Fin 512) :
    powers Q K (ix4 b h q k)
      = below (crest fun j : Fin 512 => scores Q K (ix4 b h q j)) (fun j => scores Q K (ix4 b h q j)) k := by
  unfold powers below
  show Ideal.exp (scores Q K (ix4 b h q k) - broadcastInDim S4x16x512x512 _ _ _ (ix4 b h q k)) = _
  rw [spread_last, last_max]

/-- An element of the result is a row of attention over all the keys. -/
theorem result_apply (Q K V : FVec Ideal S4x512x16x64 .bf16) (b : Fin 4) (q : Fin 512) (h : Fin 16) (d : Fin 64) :
    result Q K V (ix4 b q h d)
      = soft (fun k : Fin 512 => (∑ x : Fin 64, Q (ix4 b q h x) * K (ix4 b k h x)) * eighth) (fun k => V (ix4 b k h d)) := by
  unfold result
  rw [transpose_apply _ _ _ _ (ix4 b h d q) (fun c => match c with
    | ⟨0, _⟩ => rfl | ⟨1, _⟩ => rfl | ⟨2, _⟩ => rfl | ⟨3, _⟩ => rfl), product_vp]
  unfold soft
  refine Finset.sum_congr rfl fun k _ => ?_
  rw [hostDivf_apply, spread_last, last_sum, mul_comm]
  simp only [powers_apply, scores_apply]
  rfl

end Cert.ReferenceIdeal.Whole

end
-- ==== Proof.Arrays.lean ====
/-
What the kernel's arrays hold, head by head: the blocks that it reads, in terms of the arguments, and the result that it
leaves.
-/
module

public import proofs.«01_k».proof.Proof.Launch
public import Idealize.ShloMosaic.Lib.ValueIdx
public import Idealize.ShloMosaic.Lib.Pipeline.ValueKit

@[expose] public section

set_option maxRecDepth 16384

noncomputable section

namespace Cert.KernelIdeal.Exchange

open Idealize.ShloMosaic hiding ix0 ix1 ix2 ix3 ix4 ix5
open Idealize.ShloMosaic.ValueIdx Idealize.ShloMosaic.TcCoe Idealize.SL.Sem
open Cert.KernelIdeal Cert.KernelIdeal.Gen

variable {F : FTy → Type} [FloatOps F]
variable (m : (ℓ : Loc nD τ sig) → Buf (Elt F) ℓ)

/-- Head `h` of sequence `b`, among all the heads in order. -/
def head (b : Fin 4) (h : Fin 16) : Fin 64 := ⟨16 * b.val + h.val, by omega⟩

/-- An argument laid out by heads: the sequence and the head first, then the row. -/
def byHead {α : Type} (x : S4x256x16x64.Idx → α) : S64x256x64.Idx → α :=
  shapeCast S64x256x64 (transpose S4x16x256x64 [0, 2, 1, 3] x transposes_S4x256x16x64_S4x16x256x64_0_2_1_3)
    shapeCasts_S4x16x256x64_S64x256x64

/-- An element of an argument laid out by heads. -/
theorem byHead_apply {α : Type} (x : S4x256x16x64.Idx → α) (b : Fin 4) (h : Fin 16) (r : Fin 256) (d : Fin 64) :
    byHead x (ix3 (head b h) r d) = x (ix4 b r h d) := by
  unfold byHead
  rw [shapeCast_apply _ _ _ (ix4 b h r d), transpose_apply _ _ _ _ (ix4 b r h d) (fun c => match c with
    | ⟨0, _⟩ => rfl | ⟨1, _⟩ => rfl | ⟨2, _⟩ => rfl | ⟨3, _⟩ => rfl)]
  rw [Shape.rowMajor_val_three, Shape.rowMajor_val_four]
  show ((b.val * 16 + h.val) * 256 + r.val) * 64 + d.val = ((16 * b.val + h.val) * 256 + r.val) * 64 + d.val
  rw [Nat.mul_comm b.val 16]

/-- A result laid out by heads, put back into the order of the arguments. -/
def byRow {α : Type} (x : S64x256x64.Idx → α) : S4x256x16x64.Idx → α :=
  transpose S4x256x16x64 [0, 2, 1, 3] (shapeCast S4x16x256x64 x shapeCasts_S64x256x64_S4x16x256x64)
    transposes_S4x16x256x64_S4x256x16x64_0_2_1_3

/-- An element of a result put back into the order of the arguments. -/
theorem byRow_apply {α : Type} (x : S64x256x64.Idx → α) (b : Fin 4) (r : Fin 256) (h : Fin 16) (d : Fin 64) :
    byRow x (ix4 b r h d) = x (ix3 (head b h) r d) := by
  unfold byRow
  rw [transpose_apply _ _ _ _ (ix4 b h r d) (fun c => match c with
    | ⟨0, _⟩ => rfl | ⟨1, _⟩ => rfl | ⟨2, _⟩ => rfl | ⟨3, _⟩ => rfl), shapeCast_apply _ _ _ (ix3 (head b h) r d)]
  rw [Shape.rowMajor_val_three, Shape.rowMajor_val_four]
  show ((16 * b.val + h.val) * 256 + r.val) * 64 + d.val = ((b.val * 16 + h.val) * 256 + r.val) * 64 + d.val
  rw [Nat.mul_comm b.val 16]

/-- The kernel finds the queries laid out by heads. -/
theorem V_queries (c : Dev nD) : V m c main_v2 = byHead (m ((c.tc : Thread nD τ).loc main_arg0)) := by
  show StableHlo.after hostOps0 (fun b => m (c, b)) (Proc.devRef .tc main_v2) = _
  after_results
  rfl
/-- The kernel finds the keys laid out by heads. -/
theorem V_keys (c : Dev nD) : V m c main_v4 = byHead (m ((c.tc : Thread nD τ).loc main_arg1)) := by
  show StableHlo.after hostOps0 (fun b => m (c, b)) (Proc.devRef .tc main_v4) = _
  after_results
  rfl
/-- The kernel finds the values laid out by heads. -/
theorem V_values (c : Dev nD) : V m c main_v6 = byHead (m ((c.tc : Thread nD τ).loc main_arg2)) := by
  show StableHlo.after hostOps0 (fun b => m (c, b)) (Proc.devRef .tc main_v6) = _
  after_results
  rfl

/-- The grid goes over the heads in order. -/
theorem coord_head : ∀ t : Fin grid0.N, (grid0.coords t 0).val = t.val := by decide +kernel

/-- The query block of a grid point is that of its head. -/
theorem at_queries : ∀ t : Fin grid0.N, win0_0.index t 0 = t.val ∧ win0_0.index t 1 = 0 ∧ win0_0.index t 2 = 0 := by decide +kernel
/-- The keys' block is the whole array. -/
theorem at_keys : ∀ t : Fin grid0.N, win0_1.index t 0 = 0 ∧ win0_1.index t 1 = 0 ∧ win0_1.index t 2 = 0 := by decide +kernel
/-- The values' block is the whole array. -/
theorem at_values : ∀ t : Fin grid0.N, win0_2.index t 0 = 0 ∧ win0_2.index t 1 = 0 ∧ win0_2.index t 2 = 0 := by decide +kernel
/-- The result block of a grid point is that of its head. -/
theorem at_result : ∀ t : Fin grid0.N, win0_3.index t 0 = t.val ∧ win0_3.index t 1 = 0 ∧ win0_3.index t 2 = 0 := by decide +kernel

/-- A grid point as a head. -/
def headOf (t : Fin cfg0.N) : Fin 64 := ⟨t.val, lt_of_lt_of_eq t.isLt N_0⟩
/-- The grid point of a head. -/
def pointOf (g : Fin 64) : Fin cfg0.N := ⟨g.val, lt_of_lt_of_eq g.isLt N_0.symm⟩

/-- An element of the query block. -/
theorem block_queries (c : Dev nD) (t : Fin cfg0.N) (u : Fin 1) (r : Fin 256) (d : Fin 64) :
    (iblk m c 0 t : S1x256x64.Idx → Elt F .bf16) (ix3 u r d) = V m c main_v2 (ix3 (headOf t) r d) := by
  obtain ⟨h0, h1, h2⟩ := at_queries t
  refine congrArg (V m c main_v2) (funext fun a => Fin.ext ?_)
  match a with
  | ⟨0, _⟩ => show win0_0.index t 0 * 1 + 1 * u.val = t.val; omega
  | ⟨1, _⟩ => show win0_0.index t 1 * 256 + 1 * r.val = r.val; omega
  | ⟨2, _⟩ => show win0_0.index t 2 * 64 + 1 * d.val = d.val; omega

/-- The keys' block holds the keys. -/
theorem block_keys (c : Dev nD) (t : Fin cfg0.N) (g : Fin 64) (r : Fin 256) (d : Fin 64) :
    (iblk m c 1 t : S64x256x64.Idx → Elt F .bf16) (ix3 g r d) = V m c main_v4 (ix3 g r d) := by
  obtain ⟨h0, h1, h2⟩ := at_keys t
  refine congrArg (V m c main_v4) (funext fun a => Fin.ext ?_)
  match a with
  | ⟨0, _⟩ => show win0_1.index t 0 * 64 + 1 * g.val = g.val; omega
  | ⟨1, _⟩ => show win0_1.index t 1 * 256 + 1 * r.val = r.val; omega
  | ⟨2, _⟩ => show win0_1.index t 2 * 64 + 1 * d.val = d.val; omega

/-- The values' block holds the values. -/
theorem block_values (c : Dev nD) (t : Fin cfg0.N) (g : Fin 64) (r : Fin 256) (d : Fin 64) :
    (iblk m c 2 t : S64x256x64.Idx → Elt F .bf16) (ix3 g r d) = V m c main_v6 (ix3 g r d) := by
  obtain ⟨h0, h1, h2⟩ := at_values t
  refine congrArg (V m c main_v6) (funext fun a => Fin.ext ?_)
  match a with
  | ⟨0, _⟩ => show win0_2.index t 0 * 64 + 1 * g.val = g.val; omega
  | ⟨1, _⟩ => show win0_2.index t 1 * 256 + 1 * r.val = r.val; omega
  | ⟨2, _⟩ => show win0_2.index t 2 * 64 + 1 * d.val = d.val; omega

/-- The rows that a grid point takes from an array of keys or values are its head's. -/
theorem pick_apply (t : Fin cfg0.N) (X : S64x256x64.Idx → Elt F .bf16) (u : Fin 1) (r : Fin 256) (d : Fin 64) :
    pick (grid0.coords t) X (ix3 u r d) = X (ix3 (headOf t) r d) := by
  refine congrArg X (funext fun a => Fin.ext ?_)
  have e := k0_off1_eq (grid0.coords t)
  match a with
  | ⟨0, _⟩ =>
    show k0_off1 (grid0.coords t) 0 + 1 * u.val = t.val
    rw [congrFun e 0]
    show (grid0.coords t 0).val + 1 * u.val = t.val
    rw [coord_head]; omega
  | ⟨1, _⟩ =>
    show k0_off1 (grid0.coords t) 1 + 1 * r.val = r.val
    rw [congrFun e 1]
    show 0 + 1 * r.val = r.val
    omega
  | ⟨2, _⟩ =>
    show k0_off1 (grid0.coords t) 2 + 1 * d.val = d.val
    rw [congrFun e 2]
    show 0 + 1 * d.val = d.val
    omega

/-- The array that the kernel leaves: every head at the block of its grid point. -/
def filled (c : Dev nD) : S64x256x64.Idx → Elt F .f32 := fun j => outAt m c (pointOf (j 0)) (ix3 0 (j 1) (j 2))

/-- The blocks that the kernel writes fill its result. -/
theorem result_filled (c : Dev nD) : (dat0 m c).arrAt 3 cfg0.N = filled m c := by
  refine (dat0 m c).arrAt_eq_of_covers 3 _ (by decide +kernel) fun t _ y => ?_
  obtain ⟨h0, h1, h2⟩ := at_result t
  show outAt m c t y = filled m c _
  unfold filled
  have y0 : (y 0).val < 1 := (y 0).isLt
  have e0 : pointOf ((((cfg0.win 3).blk t).view.emb y) 0) = t := by
    apply Fin.ext
    show win0_3.index t 0 * 1 + 1 * (y 0).val = t.val
    omega
  rw [e0]
  refine congrArg (outAt m c t) (funext fun a => Fin.ext ?_)
  match a with
  | ⟨0, _⟩ => show (y 0).val = 0; omega
  | ⟨1, _⟩ => show (y 1).val = win0_3.index t 1 * 256 + 1 * (y 1).val; omega
  | ⟨2, _⟩ => show (y 2).val = win0_3.index t 2 * 64 + 1 * (y 2).val; omega

/-- The program's result is the kernel's, put back into the order of the arguments. -/
theorem at3_result (c : Dev nD) : at3 m c (Proc.devRef .tc main_v9) = byRow (filled m c) := by
  have e : at3 m c (Proc.devRef .tc main_v9) = byRow (at2 m c (Proc.devRef .tc main_v7)) := by
    unfold at3
    after_results
    rfl
  rw [e]
  exact congrArg byRow ((Pipeline.afterRegion_arr (dat0 m c) (V0 m c) winFacts0.arr_inj 3).trans (result_filled m c))

end Cert.KernelIdeal.Exchange

end
-- ==== Proof.Value.lean ====
/-
The equation: what every device's result holds is its part of the reference's result.
-/
module

public import proofs.«01_k».proof.Proof.Row
public import proofs.«01_k».proof.Proof.RefRow
public import proofs.«01_k».proof.Proof.Arrays
public import proofs.«01_k».proof.Proof.Frames

@[expose] public section

set_option maxRecDepth 16384

noncomputable section

namespace Cert.KernelIdeal.Exchange

open Idealize.ShloMosaic hiding ix0 ix1 ix2 ix3 ix4 ix5
open Idealize.ShloMosaic.ValueIdx Idealize.ShloMosaic.TcCoe Idealize.SL.Sem Cert.Attention
open Cert.KernelIdeal Cert.KernelIdeal.Gen
open scoped BigOperators

variable (m : (ℓ : Loc nD τ sig) → Buf (Elt Ideal) ℓ)

/-- A device's queries, by sequence, row, head and component. -/
def queries (c : Dev nD) : S4x256x16x64.Idx → EReal := m ((c.tc : Thread nD τ).loc main_arg0)
/-- A device's keys. -/
def keys (c : Dev nD) : S4x256x16x64.Idx → EReal := m ((c.tc : Thread nD τ).loc main_arg1)
/-- A device's values. -/
def values (c : Dev nD) : S4x256x16x64.Idx → EReal := m ((c.tc : Thread nD τ).loc main_arg2)

/-- The grid point of a head is that head again. -/
theorem headOf_pointOf (g : Fin 64) : headOf (pointOf g) = g := rfl

/-- An element of a device's result is a row of attention over its own keys and its partner's. -/
theorem device_row (c : Dev nD) (b : Fin 4) (r : Fin 256) (h : Fin 16) (d : Fin 64) :
    (at3 m c (Proc.devRef .tc main_v9) : S4x256x16x64.Idx → EReal) (ix4 b r h d)
      = soft₂ (fun k : Fin 256 => (∑ x : Fin 64, queries m c (ix4 b r h x) * keys m c (ix4 b k h x)) * eighth)
          (fun k => (∑ x : Fin 64, queries m c (ix4 b r h x) * keys m (peer c) (ix4 b k h x)) * eighth)
          (fun k => values m c (ix4 b k h d)) (fun k => values m (peer c) (ix4 b k h d)) := by
  have eq : ∀ (r : Fin 256) (x : Fin 64),
      (iblk m c 0 (pointOf (head b h)) : S1x256x64.Idx → EReal) (ix3 0 r x) = queries m c (ix4 b r h x) := fun r x => by
    refine (block_queries m c _ 0 r x).trans ?_
    rw [V_queries]
    exact byHead_apply _ b h r x
  have ek : ∀ (c : Dev nD) (t : Fin cfg0.N) (k : Fin 256) (x : Fin 64),
      pick (grid0.coords (pointOf (head b h))) (iblk m c 1 t : S64x256x64.Idx → EReal) (ix3 0 k x)
        = keys m c (ix4 b k h x) := fun c t k x => by
    refine (pick_apply _ _ 0 k x).trans ((block_keys m c t _ k x).trans ?_)
    rw [V_keys]
    exact byHead_apply _ b h k x
  have ev : ∀ (c : Dev nD) (t : Fin cfg0.N) (k : Fin 256) (x : Fin 64),
      pick (grid0.coords (pointOf (head b h))) (iblk m c 2 t : S64x256x64.Idx → EReal) (ix3 0 k x)
        = values m c (ix4 b k h x) := fun c t k x => by
    refine (pick_apply _ _ 0 k x).trans ((block_values m c t _ k x).trans ?_)
    rw [V_values]
    exact byHead_apply _ b h k x
  refine (congrFun (at3_result m c) _).trans ((byRow_apply _ b r h d).trans ?_)
  refine (attn_apply (grid0.coords (pointOf (head b h))) (iblk m c 0 (pointOf (head b h))) (iblk m c 1 (pointOf (head b h)))
    (iblk m c 2 (pointOf (head b h))) (iblk m (peer c) 1 t₀) (iblk m (peer c) 2 t₀) 0 r d).trans ?_
  simp only [eq, ek, ev]

/-- The row of the whole arrays at which a device's row lies. -/
def wholeRow (c : Dev nD) (r : Fin 256) : Fin 512 :=
  ⟨c.val / 4 * 256 + r.val, by have := c.isLt; have := r.isLt; simp only [nD] at *; omega⟩

/-- A device and its partner have all the rows between them, each once. -/
theorem rows_apart (c : Dev nD) : Function.Injective (Sum.elim (wholeRow c) (wholeRow (peer c))) := by
  have hc : c.val < 8 := c.isLt
  have hp : (peer c).val = (c.val + 4) % 8 := rfl
  rintro (x | x) (y | y) e <;> have e' := congrArg Fin.val e <;> simp only [Sum.elim_inl, Sum.elim_inr, wholeRow, hp] at e'
  · exact congrArg Sum.inl (Fin.ext (by omega))
  · have := x.isLt; have := y.isLt; omega
  · have := x.isLt; have := y.isLt; omega
  · exact congrArg Sum.inr (Fin.ext (by omega))

/-- A device's rows and its partner's, as all the rows. -/
def rowsOf (c : Dev nD) : Fin 256 ⊕ Fin 256 ≃ Fin 512 :=
  Equiv.ofBijective _ ((Fintype.bijective_iff_injective_and_card _).mpr ⟨rows_apart c, by simp⟩)

theorem rowsOf_own (c : Dev nD) (r : Fin 256) : rowsOf c (.inl r) = wholeRow c r := rfl
theorem rowsOf_far (c : Dev nD) (r : Fin 256) : rowsOf c (.inr r) = wholeRow (peer c) r := rfl

/-- The part of a whole array that a device holds. -/
abbrev partOf (c : Dev nD) (v : (⟨4, ![4, 512, 16, 64]⟩ : Shape).Idx → EReal) : (⟨4, ![4, 256, 16, 64]⟩ : Shape).Idx → EReal :=
  Layout.blockN ⟨4, ![4, 256, 16, 64]⟩ ⟨4, ![4, 512, 16, 64]⟩ (Layout.meshBlock [2, 2, 2] ![[], [0], [], []] c) v

/-- The first axis of the mesh goes by fours. -/
theorem place : ∀ c : Dev nD, Layout.meshLin [2, 2, 2] c.val [0] = c.val / 4 := by decide

/-- An element of a device's part. -/
theorem part_apply (c : Dev nD) (v : (⟨4, ![4, 512, 16, 64]⟩ : Shape).Idx → EReal) (b : Fin 4) (r : Fin 256) (h : Fin 16)
    (d : Fin 64) : partOf c v (ix4 b r h d) = v (ix4 b (wholeRow c r) h d) := by
  refine congrArg v (funext fun a => Fin.ext ?_)
  rw [Layout.TilesN.idx_val]
  match a with
  | ⟨0, _⟩ => show 0 * 4 + b.val = b.val; omega
  | ⟨1, _⟩ =>
    show Layout.meshLin [2, 2, 2] c.val [0] * 256 + r.val = c.val / 4 * 256 + r.val
    rw [place]
  | ⟨2, _⟩ => show 0 * 16 + h.val = h.val; omega
  | ⟨3, _⟩ => show 0 * 64 + d.val = d.val; omega

/-- An element of a device's result is that of its part of the reference's result on the whole arrays. -/
theorem device_element (Q K V : (⟨4, ![4, 512, 16, 64]⟩ : Shape).Idx → EReal) (hQ : ∀ c, queries m c = partOf c Q)
    (hK : ∀ c, keys m c = partOf c K) (hV : ∀ c, values m c = partOf c V) (c : Dev nD)
    (b : Fin 4) (r : Fin 256) (h : Fin 16) (d : Fin 64) :
    (at3 m c (Proc.devRef .tc main_v9) : S4x256x16x64.Idx → EReal) (ix4 b r h d)
      = partOf c (Cert.ReferenceIdeal.Whole.result Q K V) (ix4 b r h d) := by
  rw [device_row, part_apply, Cert.ReferenceIdeal.Whole.result_apply, soft_halves (rowsOf c)]
  simp only [hQ, hK, hV, part_apply, rowsOf_own, rowsOf_far]

/-- Every device's result is its part of the reference's result on the whole arrays. -/
theorem device_result (Q K V : (⟨4, ![4, 512, 16, 64]⟩ : Shape).Idx → EReal) (hQ : ∀ c, queries m c = partOf c Q)
    (hK : ∀ c, keys m c = partOf c K) (hV : ∀ c, values m c = partOf c V) (c : Dev nD) :
    (at3 m c (Proc.devRef .tc main_v9) : S4x256x16x64.Idx → EReal) = partOf c (Cert.ReferenceIdeal.Whole.result Q K V) := by
  refine funext fun (j : S4x256x16x64.Idx) => ?_
  rw [show j = ix4 (j 0) (j 1) (j 2) (j 3) from ValueIdx.eq_ix4 j]
  exact device_element m Q K V hQ hK hV c (j 0) (j 1) (j 2) (j 3)

/-- The kernel and the reference compute the same function. -/
theorem algebraic : Cert.algebraic_KernelIdeal_ReferenceIdeal := by
  intro m g m' g' _ hm
  refine ⟨Cert.ReferenceIdeal.Whole.result (m' (((0 : Dev Cert.ReferenceIdeal.nD).tc : Thread _ _).loc Cert.ReferenceIdeal.main_arg0))
    (m' (((0 : Dev Cert.ReferenceIdeal.nD).tc : Thread _ _).loc Cert.ReferenceIdeal.main_arg1))
    (m' (((0 : Dev Cert.ReferenceIdeal.nD).tc : Thread _ _).loc Cert.ReferenceIdeal.main_arg2)), ?_, ?_⟩
  · refine (θ_run defs _ _).mono (fun r h c => ?_) (run_results m g)
    obtain ⟨h9, h0, h1, h2⟩ := h.1 c
    exact ⟨h9.trans (device_result m _ _ _ (fun c => (hm c).1) (fun c => (hm c).2.1) (fun c => (hm c).2.2) c), h0, h1, h2⟩
  · refine (θ_run Cert.ReferenceIdeal.defs _ _).mono (fun r h => ?_) (Cert.ReferenceIdeal.Value.run (F := Ideal) m' g')
    exact h 0

end Cert.KernelIdeal.Exchange

end
-- ==== Proof.lean ====
module

public import proofs.«01_k».proof.Proof.Frames
public import proofs.«01_k».proof.Proof.Value
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- Everything that is claimed: the three frames, the ideal program being the kernel's own, and the equation with the
reference. -/
theorem claim : Cert.Claim :=
  ⟨Cert.Kernel.Gen.facts, Cert.KernelIdeal.Gen.facts, Cert.ReferenceIdeal.Gen.facts,
    Cert.KernelIdeal.Exchange.frame_kernel, Cert.KernelIdeal.Exchange.frame_ideal, Cert.KernelIdeal.Exchange.frame_reference,
    trivial, Cert.KernelIdeal.Exchange.algebraic⟩

end Cert.Proof

end
